-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nested [hPre_nested : Cert.Pre_nested.Facts] (m : (ℓ : Loc Cert.KernelIdeal.nD Cert.KernelIdeal.τ Cert.KernelIdeal.sig) → Buf (Elt Ideal) ℓ) : Prop :=
  ∀ c : Dev Cert.KernelIdeal.nD,
    (Cert.Pre_nested.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nested [hPre_nested : Cert.Pre_nested.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nested.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nested [hKernelIdeal : Cert.KernelIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nested m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nested [hReferenceIdeal : Cert.ReferenceIdeal.Facts] [hPre_nested : Cert.Pre_nested.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nested m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nested [hKernelIdeal : Cert.KernelIdeal.Facts] [hReferenceIdeal : Cert.ReferenceIdeal.Facts] [hPre_nested : Cert.Pre_nested.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nested m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nested : Cert.Pre_nested.Facts),
    quiescent_Kernel (hKernel := hKernel)
    ∧ quiescent_KernelIdeal (hKernelIdeal := hKernelIdeal)
    ∧ quiescent_KernelIdeal_pre_nested (hKernelIdeal := hKernelIdeal) (hPre_nested := hPre_nested)
    ∧ quiescent_ReferenceIdeal (hReferenceIdeal := hReferenceIdeal)
    ∧ quiescent_ReferenceIdeal_pre_nested (hReferenceIdeal := hReferenceIdeal) (hPre_nested := hPre_nested)
    ∧ preserves_Kernel_KernelIdeal
    ∧ algebraic_KernelIdeal_ReferenceIdeal_pre_nested (hKernelIdeal := hKernelIdeal) (hReferenceIdeal := hReferenceIdeal) (hPre_nested := hPre_nested)
-- ==== Pre_nested.lean ====
abbrev S4x786432x16 : Shape := ⟨3, ![4, 786432, 16]⟩
abbrev S196608x4 : Shape := ⟨2, ![196608, 4]⟩
abbrev S786432 : Shape := ⟨1, ![786432]⟩
abbrev S_ : Shape := ⟨0, ![]⟩

class Facts : Prop where
  shapeCasts_S786432_S196608x4 : S786432.ShapeCasts S196608x4
  reducesTo_S196608x4_S_d0_1 : S196608x4.ReducesTo [0, 1] S_
  h_S_ : 0 < S_.numel

variable [Facts]

def fn {F : FTy → Type} [FloatOps F] (main_arg0 : FVec F S4x786432x16 .f32) (main_arg1 : IVec S196608x4 32) : IVec S_ 1 :=
  let main_v0 : IVec S786432 32 := iotaInDim S786432 32 0
  let main_v1 : IVec S196608x4 32 := shapeCast S196608x4 main_v0 shapeCasts_S786432_S196608x4
  let main_v2 : IVec S196608x4 1 := cmpi .eq main_arg1 main_v1
  let main_c : IVec S_ 1 := constantI S_ 1 1#1
  let main_v3 : IVec S_ 1 := (fun x v => Host.reduce IntOp.andi x v reducesTo_S196608x4_S_d0_1 h_S_) main_v2 main_c
  main_v3
-- ==== Kernel.lean ====
abbrev S4x786432x16 : Shape := ⟨3, ![4, 786432, 16]⟩
abbrev S196608x4 : Shape := ⟨2, ![196608, 4]⟩
abbrev S4x6144x128x2x8 : Shape := ⟨5, ![4, 6144, 128, 2, 8]⟩
abbrev S4x2x6144x8x128 : Shape := ⟨5, ![4, 2, 6144, 8, 128]⟩
abbrev S4x2x6291456 : Shape := ⟨3, ![4, 2, 6291456]⟩
abbrev S4x2x1572864 : Shape := ⟨3, ![4, 2, 1572864]⟩
abbrev S49152 : Shape := ⟨1, ![49152]⟩
abbrev S12288 : Shape := ⟨1, ![12288]⟩
abbrev S_ : Shape := ⟨0, ![]⟩
abbrev S1x1x49152 : Shape := ⟨3, ![1, 1, 49152]⟩
abbrev S16 : Shape := ⟨1, ![16]⟩
abbrev S1x1x12288 : Shape := ⟨3, ![1, 1, 12288]⟩
abbrev S4x2x1536x8x128 : Shape := ⟨5, ![4, 2, 1536, 8, 128]⟩
abbrev S4x1536x128x2x8 : Shape := ⟨5, ![4, 1536, 128, 2, 8]⟩
abbrev S4x196608x16 : Shape := ⟨3, ![4, 196608, 16]⟩

abbrev nBuf : Table → Nat
  | .hbm => 9
  | .local .scVector .vmem => 4
  | _ => 0

abbrev bufTy : (tb : Table) → Fin (nBuf tb) → BufTy
  | .hbm, ⟨0, _⟩ => ⟨S4x786432x16, .f32⟩
  | .hbm, ⟨1, _⟩ => ⟨S196608x4, .i32⟩
  | .hbm, ⟨2, _⟩ => ⟨S4x6144x128x2x8, .f32⟩
  | .hbm, ⟨3, _⟩ => ⟨S4x2x6144x8x128, .f32⟩
  | .hbm, ⟨4, _⟩ => ⟨S4x2x6291456, .f32⟩
  | .hbm, ⟨5, _⟩ => ⟨S4x2x1572864, .f32⟩
  | .hbm, ⟨6, _⟩ => ⟨S4x2x1536x8x128, .f32⟩
  | .hbm, ⟨7, _⟩ => ⟨S4x1536x128x2x8, .f32⟩
  | .hbm, ⟨8, _⟩ => ⟨S4x196608x16, .f32⟩
  | .local .scVector .vmem, ⟨0, _⟩ => ⟨S49152, .f32⟩
  | .local .scVector .vmem, ⟨1, _⟩ => ⟨S49152, .f32⟩
  | .local .scVector .vmem, ⟨2, _⟩ => ⟨S12288, .f32⟩
  | .local .scVector .vmem, ⟨3, _⟩ => ⟨S12288, .f32⟩
  | _, _ => ⟨S4x786432x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c0_i32_23 : BitVec 32 := 0#32
  let v57 : BitVec 32 := Scalar.addi v56 c0_i32_23
  v57
def k0_off1 (i : grid0.Coords) (c0_i32_23 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let v57 : BitVec 32 := Scalar.addi v56 c0_i32_23
  let v58 : BitVec 32 := v57
  ![v45.toNat, v55.toNat, v58.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c49152_i32 : BitVec 32 := 49152#32
  let v63 : BitVec 32 := Scalar.addi v56 c49152_i32
  v63
@[reducible] def k0_t1_loop : Scf.Loop 32 :=
  let c0_i32_26 : BitVec 32 := 0#32
  let c16_i32 : BitVec 32 := 16#32
  let v72 : BitVec 32 := Scalar.addi c0_i32_26 c16_i32
  let c1_i32_27 : BitVec 32 := 1#32
  ⟨c0_i32_26, v72, c1_i32_27⟩
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c49152_i32_45 : BitVec 32 := 49152#32
  let v121 : BitVec 32 := Scalar.muli v120 c49152_i32_45
  let v122 : BitVec 32 := Scalar.addi v56 v121
  v122
def k0_off2 (i : grid0.Coords) (k0_t1 : Fin k0_t1_loop.trips) (c0_i32_44 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let v120 : BitVec 32 := Scalar.addi v119 c0_i32_44
  let c49152_i32_45 : BitVec 32 := 49152#32
  let v121 : BitVec 32 := Scalar.muli v120 c49152_i32_45
  let v122 : BitVec 32 := Scalar.addi v56 v121
  let v123 : BitVec 32 := v122
  ![v45.toNat, v55.toNat, v123.toNat]
def k0_cond1 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c0_i32_46 : BitVec 32 := 0#32
  let v128 : BitVec 1 := Scalar.cmpi .sgt arg12 c0_i32_46
  let v129 : BitVec 32 := Scalar.extui v128
  let c0_i32_47 : BitVec 32 := 0#32
  let v130 : BitVec 1 := Scalar.cmpi .ne v129 c0_i32_47
  v130

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c49152_i32_81 : BitVec 32 := 49152#32
  let v201 : BitVec 32 := Scalar.muli v120 c49152_i32_81
  let v202 : BitVec 32 := Scalar.addi v56 v201
  let c0_i32_83 : BitVec 32 := 0#32
  let v204 : BitVec 1 := Scalar.cmpi .sgt v202 c0_i32_83
  let v205 : BitVec 32 := Scalar.extui v204
  let c0_i32_84 : BitVec 32 := 0#32
  let v206 : BitVec 1 := Scalar.cmpi .slt v202 c0_i32_84
  let v207 : BitVec 32 := Scalar.extui v206
  let v208 : BitVec 32 := Scalar.subi v205 v207
  let c4_i32_82 : BitVec 32 := 4#32
  let c0_i32_85 : BitVec 32 := 0#32
  let v209 : BitVec 1 := Scalar.cmpi .sgt c4_i32_82 c0_i32_85
  let v210 : BitVec 32 := Scalar.extui v209
  let c0_i32_86 : BitVec 32 := 0#32
  let v211 : BitVec 1 := Scalar.cmpi .slt c4_i32_82 c0_i32_86
  let v212 : BitVec 32 := Scalar.extui v211
  let v213 : BitVec 32 := Scalar.subi v210 v212
  let v214 : BitVec 1 := Scalar.cmpi .ne v208 v213
  let v215 : BitVec 32 := Scalar.remsi v202 c4_i32_82
  let c0_i32_87 : BitVec 32 := 0#32
  let v216 : BitVec 1 := Scalar.cmpi .ne v215 c0_i32_87
  let v217 : BitVec 1 := Scalar.andi v214 v216
  let v203 : BitVec 32 := Scalar.divsi v202 c4_i32_82
  let c1_i32_88 : BitVec 32 := 1#32
  let v218 : BitVec 32 := Scalar.subi v203 c1_i32_88
  let v219 : BitVec 32 := Scalar.select v217 v218 v203
  v219
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c49152_i32_81 : BitVec 32 := 49152#32
  let v201 : BitVec 32 := Scalar.muli v120 c49152_i32_81
  let v202 : BitVec 32 := Scalar.addi v56 v201
  let c0_i32_83 : BitVec 32 := 0#32
  let v204 : BitVec 1 := Scalar.cmpi .sgt v202 c0_i32_83
  let v205 : BitVec 32 := Scalar.extui v204
  let c0_i32_84 : BitVec 32 := 0#32
  let v206 : BitVec 1 := Scalar.cmpi .slt v202 c0_i32_84
  let v207 : BitVec 32 := Scalar.extui v206
  let v208 : BitVec 32 := Scalar.subi v205 v207
  let c4_i32_82 : BitVec 32 := 4#32
  let c0_i32_85 : BitVec 32 := 0#32
  let v209 : BitVec 1 := Scalar.cmpi .sgt c4_i32_82 c0_i32_85
  let v210 : BitVec 32 := Scalar.extui v209
  let c0_i32_86 : BitVec 32 := 0#32
  let v211 : BitVec 1 := Scalar.cmpi .slt c4_i32_82 c0_i32_86
  let v212 : BitVec 32 := Scalar.extui v211
  let v213 : BitVec 32 := Scalar.subi v210 v212
  let v214 : BitVec 1 := Scalar.cmpi .ne v208 v213
  let v215 : BitVec 32 := Scalar.remsi v202 c4_i32_82
  let c0_i32_87 : BitVec 32 := 0#32
  let v216 : BitVec 1 := Scalar.cmpi .ne v215 c0_i32_87
  let v217 : BitVec 1 := Scalar.andi v214 v216
  let v203 : BitVec 32 := Scalar.divsi v202 c4_i32_82
  let c1_i32_88 : BitVec 32 := 1#32
  let v218 : BitVec 32 := Scalar.subi v203 c1_i32_88
  let v219 : BitVec 32 := Scalar.select v217 v218 v203
  let v220 : BitVec 32 := v219
  ![v45.toNat, v55.toNat, v220.toNat]
@[reducible] def k0_t2_loop : Scf.Loop 32 :=
  let c0_i32_48 : BitVec 32 := 0#32
  let c768_i32 : BitVec 32 := 768#32
  let v131 : BitVec 32 := Scalar.addi c0_i32_48 c768_i32
  let c1_i32_49 : BitVec 32 := 1#32
  ⟨c0_i32_48, v131, c1_i32_49⟩

def k0_chk1 (v217 : IVec S16 32) : Prop :=
  (∀ a x, ((![v217] : Fin 1 → IVec S16 32) a x).toNat < S49152.size a)
theorem k0_idx1_inb : ∀ (v217 : IVec S16 32) (k0_hw1 : k0_chk1 v217), ∀ a x, ((![v217] : Fin 1 → IVec S16 32) a x).toNat < S49152.size a := fun v217 k0_hw1 => k0_hw1

def k0_chk2 (v220 : IVec S16 32) : Prop :=
  (∀ a x, ((![v220] : Fin 1 → IVec S16 32) a x).toNat < S49152.size a)
theorem k0_idx2_inb : ∀ (v220 : IVec S16 32) (k0_hw2 : k0_chk2 v220), ∀ a x, ((![v220] : Fin 1 → IVec S16 32) a x).toNat < S49152.size a := fun v220 k0_hw2 => k0_hw2

def k0_chk3 (v224 : IVec S16 32) : Prop :=
  (∀ a x, ((![v224] : Fin 1 → IVec S16 32) a x).toNat < S49152.size a)
theorem k0_idx3_inb : ∀ (v224 : IVec S16 32) (k0_hw3 : k0_chk3 v224), ∀ a x, ((![v224] : Fin 1 → IVec S16 32) a x).toNat < S49152.size a := fun v224 k0_hw3 => k0_hw3

def k0_chk4 (v227 : IVec S16 32) : Prop :=
  (∀ a x, ((![v227] : Fin 1 → IVec S16 32) a x).toNat < S49152.size a)
theorem k0_idx4_inb : ∀ (v227 : IVec S16 32) (k0_hw4 : k0_chk4 v227), ∀ a x, ((![v227] : Fin 1 → IVec S16 32) a x).toNat < S49152.size a := fun v227 k0_hw4 => k0_hw4
def k0_off4 (k0_t2 : Fin k0_t2_loop.trips) : Fin 1 → Nat :=
  let c0_i32_82 : BitVec 32 := 0#32
  let c0_i32_48 : BitVec 32 := 0#32
  let c1_i32_49 : BitVec 32 := 1#32
  let arg13 : BitVec 32 := Scf.iv c0_i32_48 c1_i32_49 k0_t2
  let c1_i32_81 : BitVec 32 := 1#32
  let v201 : BitVec 32 := Scalar.muli arg13 c1_i32_81
  let v202 : BitVec 32 := Scalar.addi c0_i32_82 v201
  let c16_i32_91 : BitVec 32 := 16#32
  let v233 : BitVec 32 := Scalar.muli v202 c16_i32_91
  let v234 : Index := Scalar.indexCast v233
  ![v234.toNat]
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c49152_i32_51 : BitVec 32 := 49152#32
  let v132 : BitVec 32 := Scalar.muli v120 c49152_i32_51
  let v133 : BitVec 32 := Scalar.addi v56 v132
  let c0_i32_53 : BitVec 32 := 0#32
  let v135 : BitVec 1 := Scalar.cmpi .sgt v133 c0_i32_53
  let v136 : BitVec 32 := Scalar.extui v135
  let c0_i32_54 : BitVec 32 := 0#32
  let v137 : BitVec 1 := Scalar.cmpi .slt v133 c0_i32_54
  let v138 : BitVec 32 := Scalar.extui v137
  let v139 : BitVec 32 := Scalar.subi v136 v138
  let c4_i32_52 : BitVec 32 := 4#32
  let c0_i32_55 : BitVec 32 := 0#32
  let v140 : BitVec 1 := Scalar.cmpi .sgt c4_i32_52 c0_i32_55
  let v141 : BitVec 32 := Scalar.extui v140
  let c0_i32_56 : BitVec 32 := 0#32
  let v142 : BitVec 1 := Scalar.cmpi .slt c4_i32_52 c0_i32_56
  let v143 : BitVec 32 := Scalar.extui v142
  let v144 : BitVec 32 := Scalar.subi v141 v143
  let v145 : BitVec 1 := Scalar.cmpi .ne v139 v144
  let v146 : BitVec 32 := Scalar.remsi v133 c4_i32_52
  let c0_i32_57 : BitVec 32 := 0#32
  let v147 : BitVec 1 := Scalar.cmpi .ne v146 c0_i32_57
  let v148 : BitVec 1 := Scalar.andi v145 v147
  let v134 : BitVec 32 := Scalar.divsi v133 c4_i32_52
  let c1_i32_58 : BitVec 32 := 1#32
  let v149 : BitVec 32 := Scalar.subi v134 c1_i32_58
  let v150 : BitVec 32 := Scalar.select v148 v149 v134
  v150
def k0_off5 (i : grid0.Coords) (k0_t1 : Fin k0_t1_loop.trips) (c0_i32_44 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let v120 : BitVec 32 := Scalar.addi v119 c0_i32_44
  let c49152_i32_51 : BitVec 32 := 49152#32
  let v132 : BitVec 32 := Scalar.muli v120 c49152_i32_51
  let v133 : BitVec 32 := Scalar.addi v56 v132
  let c0_i32_53 : BitVec 32 := 0#32
  let v135 : BitVec 1 := Scalar.cmpi .sgt v133 c0_i32_53
  let v136 : BitVec 32 := Scalar.extui v135
  let c0_i32_54 : BitVec 32 := 0#32
  let v137 : BitVec 1 := Scalar.cmpi .slt v133 c0_i32_54
  let v138 : BitVec 32 := Scalar.extui v137
  let v139 : BitVec 32 := Scalar.subi v136 v138
  let c4_i32_52 : BitVec 32 := 4#32
  let c0_i32_55 : BitVec 32 := 0#32
  let v140 : BitVec 1 := Scalar.cmpi .sgt c4_i32_52 c0_i32_55
  let v141 : BitVec 32 := Scalar.extui v140
  let c0_i32_56 : BitVec 32 := 0#32
  let v142 : BitVec 1 := Scalar.cmpi .slt c4_i32_52 c0_i32_56
  let v143 : BitVec 32 := Scalar.extui v142
  let v144 : BitVec 32 := Scalar.subi v141 v143
  let v145 : BitVec 1 := Scalar.cmpi .ne v139 v144
  let v146 : BitVec 32 := Scalar.remsi v133 c4_i32_52
  let c0_i32_57 : BitVec 32 := 0#32
  let v147 : BitVec 1 := Scalar.cmpi .ne v146 c0_i32_57
  let v148 : BitVec 1 := Scalar.andi v145 v147
  let v134 : BitVec 32 := Scalar.divsi v133 c4_i32_52
  let c1_i32_58 : BitVec 32 := 1#32
  let v149 : BitVec 32 := Scalar.subi v134 c1_i32_58
  let v150 : BitVec 32 := Scalar.select v148 v149 v134
  let v151 : BitVec 32 := v150
  ![v45.toNat, v55.toNat, v151.toNat]
def k0_cond2 (k0_t1 : Fin k0_t1_loop.trips) : BitVec 1 :=
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c2_i32_59 : BitVec 32 := 2#32
  let v156 : BitVec 32 := Scalar.addi v120 c2_i32_59
  let c32_i32 : BitVec 32 := 32#32
  let v157 : BitVec 1 := Scalar.cmpi .slt v156 c32_i32
  let v158 : BitVec 32 := Scalar.extui v157
  let c0_i32_60 : BitVec 32 := 0#32
  let v159 : BitVec 1 := Scalar.cmpi .ne v158 c0_i32_60
  v159

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c2_i32_81 : BitVec 32 := 2#32
  let v201 : BitVec 32 := Scalar.addi v120 c2_i32_81
  let c49152_i32_82 : BitVec 32 := 49152#32
  let v202 : BitVec 32 := Scalar.muli v201 c49152_i32_82
  let v203 : BitVec 32 := Scalar.addi v56 v202
  v203
def k0_off6 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_43 : BitVec 32 := 2#32
  let c0_i32_26 : BitVec 32 := 0#32
  let c1_i32_27 : BitVec 32 := 1#32
  let arg12 : BitVec 32 := Scf.iv c0_i32_26 c1_i32_27 k0_t1
  let v119 : BitVec 32 := Scalar.muli c2_i32_43 arg12
  let c0_i32_44 : BitVec 32 := 0#32
  let v120 : BitVec 32 := Scalar.addi v119 c0_i32_44
  let c2_i32_81 : BitVec 32 := 2#32
  let v201 : BitVec 32 := Scalar.addi v120 c2_i32_81
  let c49152_i32_82 : BitVec 32 := 49152#32
  let v202 : BitVec 32 := Scalar.muli v201 c49152_i32_82
  let v203 : BitVec 32 := Scalar.addi v56 v202
  let v204 : BitVec 32 := v203
  ![v45.toNat, v55.toNat, v204.toNat]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c49152_i32_63 : BitVec 32 := 49152#32
  let v162 : BitVec 32 := Scalar.muli v161 c49152_i32_63
  let v163 : BitVec 32 := Scalar.addi v56 v162
  v163
def k0_cond3 (k0_t1 : Fin k0_t1_loop.trips) : BitVec 1 :=
  let c0_i32_26 : BitVec 32 := 0#32
  let c1_i32_27 : BitVec 32 := 1#32
  let arg12 : BitVec 32 := Scf.iv c0_i32_26 c1_i32_27 k0_t1
  let c0_i32_64 : BitVec 32 := 0#32
  let v169 : BitVec 1 := Scalar.cmpi .sgt arg12 c0_i32_64
  let v170 : BitVec 32 := Scalar.extui v169
  let c0_i32_65 : BitVec 32 := 0#32
  let v171 : BitVec 1 := Scalar.cmpi .ne v170 c0_i32_65
  v171

def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c49152_i32_81 : BitVec 32 := 49152#32
  let v201 : BitVec 32 := Scalar.muli v161 c49152_i32_81
  let v202 : BitVec 32 := Scalar.addi v56 v201
  let c0_i32_83 : BitVec 32 := 0#32
  let v204 : BitVec 1 := Scalar.cmpi .sgt v202 c0_i32_83
  let v205 : BitVec 32 := Scalar.extui v204
  let c0_i32_84 : BitVec 32 := 0#32
  let v206 : BitVec 1 := Scalar.cmpi .slt v202 c0_i32_84
  let v207 : BitVec 32 := Scalar.extui v206
  let v208 : BitVec 32 := Scalar.subi v205 v207
  let c4_i32_82 : BitVec 32 := 4#32
  let c0_i32_85 : BitVec 32 := 0#32
  let v209 : BitVec 1 := Scalar.cmpi .sgt c4_i32_82 c0_i32_85
  let v210 : BitVec 32 := Scalar.extui v209
  let c0_i32_86 : BitVec 32 := 0#32
  let v211 : BitVec 1 := Scalar.cmpi .slt c4_i32_82 c0_i32_86
  let v212 : BitVec 32 := Scalar.extui v211
  let v213 : BitVec 32 := Scalar.subi v210 v212
  let v214 : BitVec 1 := Scalar.cmpi .ne v208 v213
  let v215 : BitVec 32 := Scalar.remsi v202 c4_i32_82
  let c0_i32_87 : BitVec 32 := 0#32
  let v216 : BitVec 1 := Scalar.cmpi .ne v215 c0_i32_87
  let v217 : BitVec 1 := Scalar.andi v214 v216
  let v203 : BitVec 32 := Scalar.divsi v202 c4_i32_82
  let c1_i32_88 : BitVec 32 := 1#32
  let v218 : BitVec 32 := Scalar.subi v203 c1_i32_88
  let v219 : BitVec 32 := Scalar.select v217 v218 v203
  v219
def k0_off7 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c49152_i32_81 : BitVec 32 := 49152#32
  let v201 : BitVec 32 := Scalar.muli v161 c49152_i32_81
  let v202 : BitVec 32 := Scalar.addi v56 v201
  let c0_i32_83 : BitVec 32 := 0#32
  let v204 : BitVec 1 := Scalar.cmpi .sgt v202 c0_i32_83
  let v205 : BitVec 32 := Scalar.extui v204
  let c0_i32_84 : BitVec 32 := 0#32
  let v206 : BitVec 1 := Scalar.cmpi .slt v202 c0_i32_84
  let v207 : BitVec 32 := Scalar.extui v206
  let v208 : BitVec 32 := Scalar.subi v205 v207
  let c4_i32_82 : BitVec 32 := 4#32
  let c0_i32_85 : BitVec 32 := 0#32
  let v209 : BitVec 1 := Scalar.cmpi .sgt c4_i32_82 c0_i32_85
  let v210 : BitVec 32 := Scalar.extui v209
  let c0_i32_86 : BitVec 32 := 0#32
  let v211 : BitVec 1 := Scalar.cmpi .slt c4_i32_82 c0_i32_86
  let v212 : BitVec 32 := Scalar.extui v211
  let v213 : BitVec 32 := Scalar.subi v210 v212
  let v214 : BitVec 1 := Scalar.cmpi .ne v208 v213
  let v215 : BitVec 32 := Scalar.remsi v202 c4_i32_82
  let c0_i32_87 : BitVec 32 := 0#32
  let v216 : BitVec 1 := Scalar.cmpi .ne v215 c0_i32_87
  let v217 : BitVec 1 := Scalar.andi v214 v216
  let v203 : BitVec 32 := Scalar.divsi v202 c4_i32_82
  let c1_i32_88 : BitVec 32 := 1#32
  let v218 : BitVec 32 := Scalar.subi v203 c1_i32_88
  let v219 : BitVec 32 := Scalar.select v217 v218 v203
  let v220 : BitVec 32 := v219
  ![v45.toNat, v55.toNat, v220.toNat]
@[reducible] def k0_t3_loop : Scf.Loop 32 :=
  let c0_i32_66 : BitVec 32 := 0#32
  let c768_i32_67 : BitVec 32 := 768#32
  let v172 : BitVec 32 := Scalar.addi c0_i32_66 c768_i32_67
  let c1_i32_68 : BitVec 32 := 1#32
  ⟨c0_i32_66, v172, c1_i32_68⟩

def k0_chk5 (v217 : IVec S16 32) : Prop :=
  (∀ a x, ((![v217] : Fin 1 → IVec S16 32) a x).toNat < S49152.size a)
theorem k0_idx5_inb : ∀ (v217 : IVec S16 32) (k0_hw5 : k0_chk5 v217), ∀ a x, ((![v217] : Fin 1 → IVec S16 32) a x).toNat < S49152.size a := fun v217 k0_hw5 => k0_hw5

def k0_chk6 (v220 : IVec S16 32) : Prop :=
  (∀ a x, ((![v220] : Fin 1 → IVec S16 32) a x).toNat < S49152.size a)
theorem k0_idx6_inb : ∀ (v220 : IVec S16 32) (k0_hw6 : k0_chk6 v220), ∀ a x, ((![v220] : Fin 1 → IVec S16 32) a x).toNat < S49152.size a := fun v220 k0_hw6 => k0_hw6

def k0_chk7 (v224 : IVec S16 32) : Prop :=
  (∀ a x, ((![v224] : Fin 1 → IVec S16 32) a x).toNat < S49152.size a)
theorem k0_idx7_inb : ∀ (v224 : IVec S16 32) (k0_hw7 : k0_chk7 v224), ∀ a x, ((![v224] : Fin 1 → IVec S16 32) a x).toNat < S49152.size a := fun v224 k0_hw7 => k0_hw7

def k0_chk8 (v227 : IVec S16 32) : Prop :=
  (∀ a x, ((![v227] : Fin 1 → IVec S16 32) a x).toNat < S49152.size a)
theorem k0_idx8_inb : ∀ (v227 : IVec S16 32) (k0_hw8 : k0_chk8 v227), ∀ a x, ((![v227] : Fin 1 → IVec S16 32) a x).toNat < S49152.size a := fun v227 k0_hw8 => k0_hw8
def k0_off8 (k0_t3 : Fin k0_t3_loop.trips) : Fin 1 → Nat :=
  let c0_i32_82 : BitVec 32 := 0#32
  let c0_i32_66 : BitVec 32 := 0#32
  let c1_i32_68 : BitVec 32 := 1#32
  let arg13 : BitVec 32 := Scf.iv c0_i32_66 c1_i32_68 k0_t3
  let c1_i32_81 : BitVec 32 := 1#32
  let v201 : BitVec 32 := Scalar.muli arg13 c1_i32_81
  let v202 : BitVec 32 := Scalar.addi c0_i32_82 v201
  let c16_i32_91 : BitVec 32 := 16#32
  let v233 : BitVec 32 := Scalar.muli v202 c16_i32_91
  let v234 : Index := Scalar.indexCast v233
  ![v234.toNat]
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c49152_i32_70 : BitVec 32 := 49152#32
  let v173 : BitVec 32 := Scalar.muli v161 c49152_i32_70
  let v174 : BitVec 32 := Scalar.addi v56 v173
  let c0_i32_72 : BitVec 32 := 0#32
  let v176 : BitVec 1 := Scalar.cmpi .sgt v174 c0_i32_72
  let v177 : BitVec 32 := Scalar.extui v176
  let c0_i32_73 : BitVec 32 := 0#32
  let v178 : BitVec 1 := Scalar.cmpi .slt v174 c0_i32_73
  let v179 : BitVec 32 := Scalar.extui v178
  let v180 : BitVec 32 := Scalar.subi v177 v179
  let c4_i32_71 : BitVec 32 := 4#32
  let c0_i32_74 : BitVec 32 := 0#32
  let v181 : BitVec 1 := Scalar.cmpi .sgt c4_i32_71 c0_i32_74
  let v182 : BitVec 32 := Scalar.extui v181
  let c0_i32_75 : BitVec 32 := 0#32
  let v183 : BitVec 1 := Scalar.cmpi .slt c4_i32_71 c0_i32_75
  let v184 : BitVec 32 := Scalar.extui v183
  let v185 : BitVec 32 := Scalar.subi v182 v184
  let v186 : BitVec 1 := Scalar.cmpi .ne v180 v185
  let v187 : BitVec 32 := Scalar.remsi v174 c4_i32_71
  let c0_i32_76 : BitVec 32 := 0#32
  let v188 : BitVec 1 := Scalar.cmpi .ne v187 c0_i32_76
  let v189 : BitVec 1 := Scalar.andi v186 v188
  let v175 : BitVec 32 := Scalar.divsi v174 c4_i32_71
  let c1_i32_77 : BitVec 32 := 1#32
  let v190 : BitVec 32 := Scalar.subi v175 c1_i32_77
  let v191 : BitVec 32 := Scalar.select v189 v190 v175
  v191
def k0_cond4 (k0_t1 : Fin k0_t1_loop.trips) : BitVec 1 :=
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c2_i32_78 : BitVec 32 := 2#32
  let v197 : BitVec 32 := Scalar.addi v161 c2_i32_78
  let c32_i32_79 : BitVec 32 := 32#32
  let v198 : BitVec 1 := Scalar.cmpi .slt v197 c32_i32_79
  let v199 : BitVec 32 := Scalar.extui v198
  let c0_i32_80 : BitVec 32 := 0#32
  let v200 : BitVec 1 := Scalar.cmpi .ne v199 c0_i32_80
  v200

def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c2_i32_81 : BitVec 32 := 2#32
  let v201 : BitVec 32 := Scalar.addi v161 c2_i32_81
  let c49152_i32_82 : BitVec 32 := 49152#32
  let v202 : BitVec 32 := Scalar.muli v201 c49152_i32_82
  let v203 : BitVec 32 := Scalar.addi v56 v202
  v203
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c2_i32_61 : BitVec 32 := 2#32
  let c0_i32_26 : BitVec 32 := 0#32
  let c1_i32_27 : BitVec 32 := 1#32
  let arg12 : BitVec 32 := Scf.iv c0_i32_26 c1_i32_27 k0_t1
  let v160 : BitVec 32 := Scalar.muli c2_i32_61 arg12
  let c1_i32_62 : BitVec 32 := 1#32
  let v161 : BitVec 32 := Scalar.addi v160 c1_i32_62
  let c2_i32_81 : BitVec 32 := 2#32
  let v201 : BitVec 32 := Scalar.addi v161 c2_i32_81
  let c49152_i32_82 : BitVec 32 := 49152#32
  let v202 : BitVec 32 := Scalar.muli v201 c49152_i32_82
  let v203 : BitVec 32 := Scalar.addi v56 v202
  let v204 : BitVec 32 := v203
  ![v45.toNat, v55.toNat, v204.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c1474560_i32 : BitVec 32 := 1474560#32
  let v73 : BitVec 32 := Scalar.addi v56 c1474560_i32
  let c0_i32_30 : BitVec 32 := 0#32
  let v75 : BitVec 1 := Scalar.cmpi .sgt v73 c0_i32_30
  let v76 : BitVec 32 := Scalar.extui v75
  let c0_i32_31 : BitVec 32 := 0#32
  let v77 : BitVec 1 := Scalar.cmpi .slt v73 c0_i32_31
  let v78 : BitVec 32 := Scalar.extui v77
  let v79 : BitVec 32 := Scalar.subi v76 v78
  let c4_i32_29 : BitVec 32 := 4#32
  let c0_i32_32 : BitVec 32 := 0#32
  let v80 : BitVec 1 := Scalar.cmpi .sgt c4_i32_29 c0_i32_32
  let v81 : BitVec 32 := Scalar.extui v80
  let c0_i32_33 : BitVec 32 := 0#32
  let v82 : BitVec 1 := Scalar.cmpi .slt c4_i32_29 c0_i32_33
  let v83 : BitVec 32 := Scalar.extui v82
  let v84 : BitVec 32 := Scalar.subi v81 v83
  let v85 : BitVec 1 := Scalar.cmpi .ne v79 v84
  let v86 : BitVec 32 := Scalar.remsi v73 c4_i32_29
  let c0_i32_34 : BitVec 32 := 0#32
  let v87 : BitVec 1 := Scalar.cmpi .ne v86 c0_i32_34
  let v88 : BitVec 1 := Scalar.andi v85 v87
  let v74 : BitVec 32 := Scalar.divsi v73 c4_i32_29
  let c1_i32_35 : BitVec 32 := 1#32
  let v89 : BitVec 32 := Scalar.subi v74 c1_i32_35
  let v90 : BitVec 32 := Scalar.select v88 v89 v74
  v90
def k0_off10 (i : grid0.Coords) (c1474560_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v30 : BitVec 1 := Scalar.cmpi .sgt v18 c0_i32_11
  let v31 : BitVec 32 := Scalar.extui v30
  let c0_i32_12 : BitVec 32 := 0#32
  let v32 : BitVec 1 := Scalar.cmpi .slt v18 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v18 c2_i32_10
  let c0_i32_15 : BitVec 32 := 0#32
  let v42 : BitVec 1 := Scalar.cmpi .ne v41 c0_i32_15
  let v43 : BitVec 1 := Scalar.andi v40 v42
  let v29 : BitVec 32 := Scalar.divsi v18 c2_i32_10
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v18 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let v73 : BitVec 32 := Scalar.addi v56 c1474560_i32
  let c0_i32_30 : BitVec 32 := 0#32
  let v75 : BitVec 1 := Scalar.cmpi .sgt v73 c0_i32_30
  let v76 : BitVec 32 := Scalar.extui v75
  let c0_i32_31 : BitVec 32 := 0#32
  let v77 : BitVec 1 := Scalar.cmpi .slt v73 c0_i32_31
  let v78 : BitVec 32 := Scalar.extui v77
  let v79 : BitVec 32 := Scalar.subi v76 v78
  let c4_i32_29 : BitVec 32 := 4#32
  let c0_i32_32 : BitVec 32 := 0#32
  let v80 : BitVec 1 := Scalar.cmpi .sgt c4_i32_29 c0_i32_32
  let v81 : BitVec 32 := Scalar.extui v80
  let c0_i32_33 : BitVec 32 := 0#32
  let v82 : BitVec 1 := Scalar.cmpi .slt c4_i32_29 c0_i32_33
  let v83 : BitVec 32 := Scalar.extui v82
  let v84 : BitVec 32 := Scalar.subi v81 v83
  let v85 : BitVec 1 := Scalar.cmpi .ne v79 v84
  let v86 : BitVec 32 := Scalar.remsi v73 c4_i32_29
  let c0_i32_34 : BitVec 32 := 0#32
  let v87 : BitVec 1 := Scalar.cmpi .ne v86 c0_i32_34
  let v88 : BitVec 1 := Scalar.andi v85 v87
  let v74 : BitVec 32 := Scalar.divsi v73 c4_i32_29
  let c1_i32_35 : BitVec 32 := 1#32
  let v89 : BitVec 32 := Scalar.subi v74 c1_i32_35
  let v90 : BitVec 32 := Scalar.select v88 v89 v74
  let v91 : BitVec 32 := v90
  ![v45.toNat, v55.toNat, v91.toNat]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1572864_i32 : BitVec 32 := 1572864#32
  let v56 : BitVec 32 := Scalar.muli v28 c1572864_i32
  let c1523712_i32 : BitVec 32 := 1523712#32
  let v96 : BitVec 32 := Scalar.addi v56 c1523712_i32
  let c0_i32_37 : BitVec 32 := 0#32
  let v98 : BitVec 1 := Scalar.cmpi .sgt v96 c0_i32_37
  let v99 : BitVec 32 := Scalar.extui v98
  let c0_i32_38 : BitVec 32 := 0#32
  let v100 : BitVec 1 := Scalar.cmpi .slt v96 c0_i32_38
  let v101 : BitVec 32 := Scalar.extui v100
  let v102 : BitVec 32 := Scalar.subi v99 v101
  let c4_i32_36 : BitVec 32 := 4#32
  let c0_i32_39 : BitVec 32 := 0#32
  let v103 : BitVec 1 := Scalar.cmpi .sgt c4_i32_36 c0_i32_39
  let v104 : BitVec 32 := Scalar.extui v103
  let c0_i32_40 : BitVec 32 := 0#32
  let v105 : BitVec 1 := Scalar.cmpi .slt c4_i32_36 c0_i32_40
  let v106 : BitVec 32 := Scalar.extui v105
  let v107 : BitVec 32 := Scalar.subi v104 v106
  let v108 : BitVec 1 := Scalar.cmpi .ne v102 v107
  let v109 : BitVec 32 := Scalar.remsi v96 c4_i32_36
  let c0_i32_41 : BitVec 32 := 0#32
  let v110 : BitVec 1 := Scalar.cmpi .ne v109 c0_i32_41
  let v111 : BitVec 1 := Scalar.andi v108 v110
  let v97 : BitVec 32 := Scalar.divsi v96 c4_i32_36
  let c1_i32_42 : BitVec 32 := 1#32
  let v112 : BitVec 32 := Scalar.subi v97 c1_i32_42
  let v113 : BitVec 32 := Scalar.select v111 v112 v97
  v113
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x786432x16 : Shape := ⟨3, ![4, 786432, 16]⟩
abbrev S196608x4 : Shape := ⟨2, ![196608, 4]⟩
abbrev S_ : Shape := ⟨0, ![]⟩
abbrev S196608x4x1 : Shape := ⟨3, ![196608, 4, 1]⟩
abbrev S1 : Shape := ⟨1, ![1]⟩
abbrev S1x1x1 : Shape := ⟨3, ![1, 1, 1]⟩
abbrev S4x196608x4x16 : Shape := ⟨4, ![4, 196608, 4, 16]⟩
abbrev S4x196608x16 : Shape := ⟨3, ![4, 196608, 16]⟩

abbrev nBuf : Space → Nat
  | .hbm => 30
  | .vmem => 0
  | .smem => 0
  | _ => 0

abbrev bufTy : (tb : Table) → Fin (tcTables nBuf tb) → BufTy
  | .hbm, ⟨0, _⟩ => ⟨S4x786432x16, .f32⟩
  | .hbm, ⟨1, _⟩ => ⟨S196608x4, .i32⟩
  | .hbm, ⟨2, _⟩ => ⟨S_, .i32⟩
  | .hbm, ⟨3, _⟩ => ⟨S196608x4, .i32⟩
  | .hbm, ⟨4, _⟩ => ⟨S196608x4, .i1⟩
  | .hbm, ⟨5, _⟩ => ⟨S_, .i32⟩
  | .hbm, ⟨6, _⟩ => ⟨S196608x4, .i32⟩
  | .hbm, ⟨7, _⟩ => ⟨S196608x4, .i32⟩
  | .hbm, ⟨8, _⟩ => ⟨S196608x4, .i32⟩
  | .hbm, ⟨9, _⟩ => ⟨S196608x4x1, .i32⟩
  | .hbm, ⟨10, _⟩ => ⟨S1, .i32⟩
  | .hbm, ⟨11, _⟩ => ⟨S_, .i32⟩
  | .hbm, ⟨12, _⟩ => ⟨S196608x4x1, .i32⟩
  | .hbm, ⟨13, _⟩ => ⟨S196608x4x1, .i1⟩
  | .hbm, ⟨14, _⟩ => ⟨S1x1x1, .i32⟩
  | .hbm, ⟨15, _⟩ => ⟨S196608x4x1, .i32⟩
  | .hbm, ⟨16, _⟩ => ⟨S196608x4x1, .i1⟩
  | .hbm, ⟨17, _⟩ => ⟨S196608x4x1, .i1⟩
  | .hbm, ⟨18, _⟩ => ⟨S_, .i1⟩
  | .hbm, ⟨19, _⟩ => ⟨S196608x4, .i1⟩
  | .hbm, ⟨20, _⟩ => ⟨S4x196608x4x16, .f32⟩
  | .hbm, ⟨21, _⟩ => ⟨S4x196608x4x16, .i1⟩
  | .hbm, ⟨22, _⟩ => ⟨S_, .f32⟩
  | .hbm, ⟨23, _⟩ => ⟨S4x196608x4x16, .f32⟩
  | .hbm, ⟨24, _⟩ => ⟨S4x196608x4x16, .f32⟩
  | .hbm, ⟨25, _⟩ => ⟨S_, .f32⟩
  | .hbm, ⟨26, _⟩ => ⟨S4x196608x16, .f32⟩
  | .hbm, ⟨27, _⟩ => ⟨S_, .f32⟩
  | .hbm, ⟨28, _⟩ => ⟨S4x196608x16, .f32⟩
  | .hbm, ⟨29, _⟩ => ⟨S4x196608x16, .f32⟩
  | _, _ => ⟨S4x786432x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Index.lean ====
/-
  Where a tile's chunks lie: the closed forms of the slice offsets the kernel computes, and of the indices its gathers read.
-/
module

public import proofs.«01_k».proof.Proof.Gen.KernelIdeal.Skeleton

@[expose] public section

noncomputable section

namespace Cert.KernelIdeal.Pool

open Idealize.ShloMosaic Idealize.SL.Sem
open Cert.KernelIdeal Cert.KernelIdeal.Gen

variable {F : FTy → Type} [FloatOps F]

/-- The tile's number, `2 · subcore + core`. -/
def wid (i : grid0.Coords) : Nat := 2 * (i 1).val + (i 0).val

/-- Where an input chunk starts. -/
def inAt (i : grid0.Coords) (g : Nat) : Fin 3 → Nat := ![wid i / 8, wid i / 4 % 2, 1572864 * (wid i % 4) + 49152 * g]

/-- Where an output chunk starts. -/
def outAt (i : grid0.Coords) (g : Nat) : Fin 3 → Nat := ![wid i / 8, wid i / 4 % 2, 393216 * (wid i % 4) + 12288 * g]

theorem trips1 : k0_t1_loop.trips = 16 := by decide +kernel
theorem trips2 : k0_t2_loop.trips = 768 := by decide +kernel
theorem trips3 : k0_t3_loop.trips = 768 := by decide +kernel

theorem off1_eq : ∀ (i : grid0.Coords) (r : Fin 2), k0_off1 i (BitVec.ofNat 32 (49152 * r.val)) = inAt i r.val := by decide +kernel

theorem off2_eq : ∀ (i : grid0.Coords) (t : Fin k0_t1_loop.trips) (r : Fin 2), k0_off2 i t (BitVec.ofNat 32 r.val) = inAt i (2 * t.val + r.val) := by
  decide +kernel

theorem off5_eq : ∀ (i : grid0.Coords) (t : Fin k0_t1_loop.trips) (r : Fin 2), k0_off5 i t (BitVec.ofNat 32 r.val) = outAt i (2 * t.val + r.val) := by
  decide +kernel

theorem off6_eq : ∀ (i : grid0.Coords) (t : Fin k0_t1_loop.trips), k0_cond2 t = 1#1 → k0_off6 i t = inAt i (2 * t.val + 2) := by decide +kernel

theorem off9_eq : ∀ (i : grid0.Coords) (t : Fin k0_t1_loop.trips), k0_cond4 t = 1#1 → k0_off9 i t = inAt i (2 * t.val + 3) := by decide +kernel

theorem cond1_iff : ∀ t : Fin k0_t1_loop.trips, k0_cond1 t = 1#1 ↔ 0 < t.val := by decide +kernel
theorem cond2_iff : ∀ t : Fin k0_t1_loop.trips, k0_cond2 t = 1#1 ↔ t.val < 15 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val < 15 := by decide +kernel

end Cert.KernelIdeal.Pool
-- ==== Proof.Value.lean ====
/-
  What the kernel computes, index by index: the chunk a tile fetches, the four-term means it makes of it, the whole
  result as a function of the laid-out input, and how the slices the tile takes read and write these.
-/
module

public import proofs.«01_k».proof.Proof.Index
public import Idealize.ShloMosaic.Lib.ValueIdxCore
public import Idealize.ShloMosaic.Lib.SparseCore.Ops

@[expose] public section

noncomputable section

namespace Cert.KernelIdeal.Pool

open Idealize.ShloMosaic Idealize.SL.Sem Idealize.ShloMosaic.ValueIdx
open Cert.KernelIdeal Cert.KernelIdeal.Gen

/-! ## Reading at natural-number coordinates -/

section Reads
variable {α : Type}

/-- The laid-out input at three coordinates. -/
def rd (x : S4x2x6291456.Idx → α) (a b c : Nat) : α := x (ix3 (Fin.ofNat 4 a) (Fin.ofNat 2 b) (Fin.ofNat 6291456 c))

/-- A fetched chunk at a coordinate. -/
def rd1 (x : S49152.Idx → α) (n : Nat) : α := x (ix1 (Fin.ofNat 49152 n))

theorem rd_eq (x : S4x2x6291456.Idx → α) (y : S4x2x6291456.Idx) {a b c : Nat} (h0 : (y 0).val = a) (h1 : (y 1).val = b) (h2 : (y 2).val = c) :
    rd x a b c = x y := by
  subst h0 h1 h2
  unfold rd
  congr 1
  funext k
  match k with
  | ⟨0, _⟩ => exact Fin.ext (Nat.mod_eq_of_lt (y 0).isLt)
  | ⟨1, _⟩ => exact Fin.ext (Nat.mod_eq_of_lt (y 1).isLt)
  | ⟨2, _⟩ => exact Fin.ext (Nat.mod_eq_of_lt (y 2).isLt)

theorem rd1_eq (x : S49152.Idx → α) (y : S49152.Idx) {n : Nat} (h : (y 0).val = n) : rd1 x n = x y := by
  subst h
  unfold rd1
  congr 1
  funext k
  match k with
  | ⟨0, _⟩ => exact Fin.ext (Nat.mod_eq_of_lt (y 0).isLt)

/-- Where the first of the four elements averaged into position `o` lies. -/
def src (o : Nat) : Nat := o / 1024 * 4096 + o / 32 % 4 * 1024 + o / 128 % 8 * 128 + 4 * (o % 32)

theorem src_lt {o : Nat} (h : o < 12288) : src o + 3 < 49152 := by unfold src; omega

theorem src_chunk (q g o : Nat) : src (393216 * q + 12288 * g + o) = 1572864 * q + 49152 * g + src o := by unfold src; omega

/-- The chunk `g` of tile `i` of the laid-out input. -/
def chunk (x : S4x2x6291456.Idx → α) (i : grid0.Coords) (g : Nat) : S49152.Idx → α :=
  fun j => rd x (wid i / 8) (wid i / 4 % 2) (1572864 * (wid i % 4) + 49152 * g + (j 0).val)

theorem rd1_chunk (x : S4x2x6291456.Idx → α) (i : grid0.Coords) (g : Nat) {n : Nat} (h : n < 49152) :
    rd1 (chunk x i g) n = rd x (wid i / 8) (wid i / 4 % 2) (1572864 * (wid i % 4) + 49152 * g + n) := by
  rw [rd1_eq (chunk x i g) (ix1 ⟨n, h⟩) rfl]; rfl

end Reads

variable {F : FTy → Type} [FloatOps F]

/-- The mean of four as the kernel takes it: two sums of two, added, times a quarter. -/
def avg4 (a b c d : F .f32) : F .f32 :=
  FloatOps.mulf (FloatOps.addf (FloatOps.addf a b) (FloatOps.addf c d)) (Scalar.ofBits .f32 0x3E800000#32)

/-- The means of a chunk. -/
def avgs (x : S49152.Idx → F .f32) : S12288.Idx → F .f32 :=
  fun o => avg4 (rd1 x (src (o 0).val)) (rd1 x (src (o 0).val + 1)) (rd1 x (src (o 0).val + 2)) (rd1 x (src (o 0).val + 3))

/-- The whole result. -/
def G (x : S4x2x6291456.Idx → F .f32) : S4x2x1572864.Idx → F .f32 :=
  fun y => avg4 (rd x (y 0).val (y 1).val (src (y 2).val)) (rd x (y 0).val (y 1).val (src (y 2).val + 1))
    (rd x (y 0).val (y 1).val (src (y 2).val + 2)) (rd x (y 0).val (y 1).val (src (y 2).val + 3))

/-- A chunk's means are the result's elements at the chunk's place. -/
theorem avgs_chunk (x : S4x2x6291456.Idx → F .f32) (i : grid0.Coords) (g : Nat) (o : S12288.Idx) (y : S4x2x1572864.Idx)
    (h0 : (y 0).val = wid i / 8) (h1 : (y 1).val = wid i / 4 % 2) (h2 : (y 2).val = 393216 * (wid i % 4) + 12288 * g + (o 0).val) :
    avgs (chunk x i g) o = G x y := by
  have ho : (o 0).val < 12288 := (o 0).isLt
  have hs := src_lt ho
  unfold avgs G
  rw [h0, h1, h2, src_chunk, rd1_chunk x i g (by omega), rd1_chunk x i g (by omega), rd1_chunk x i g (by omega), rd1_chunk x i g (by omega)]
  simp only [Nat.add_assoc]

/-! ## The gathers' indices -/

theorem pay1_nat : ∀ (t : Fin k0_t2_loop.trips) (l : Fin 16), (k0_pay1 k0_pay11 t (ix1 l)).toNat = src (16 * t.val + l.val) := by decide +kernel

theorem trip_lt (t : Fin k0_t2_loop.trips) (l : Fin 16) : 16 * t.val + l.val < 12288 := by
  have h : t.val < 768 := lt_of_lt_of_eq t.isLt trips2
  omega

theorem pay2_nat (t : Fin k0_t2_loop.trips) (l : Fin 16) : (k0_pay2 (k0_pay1 k0_pay11 t) (ix1 l)).toNat = src (16 * t.val + l.val) + 1 := by
  have h := pay1_nat t l
  have hs := src_lt (trip_lt t l)
  show (k0_pay1 k0_pay11 t (ix1 l) + 1#32).toNat = _
  rw [BitVec.toNat_add, h]; exact Nat.mod_eq_of_lt (by show _ + 1 < 4294967296; omega)
theorem pay3_nat (t : Fin k0_t2_loop.trips) (l : Fin 16) : (k0_pay3 (k0_pay1 k0_pay11 t) (ix1 l)).toNat = src (16 * t.val + l.val) + 2 := by
  have h := pay1_nat t l
  have hs := src_lt (trip_lt t l)
  show (k0_pay1 k0_pay11 t (ix1 l) + 2#32).toNat = _
  rw [BitVec.toNat_add, h]; exact Nat.mod_eq_of_lt (by show _ + 2 < 4294967296; omega)
theorem pay4_nat (t : Fin k0_t2_loop.trips) (l : Fin 16) : (k0_pay4 (k0_pay1 k0_pay11 t) (ix1 l)).toNat = src (16 * t.val + l.val) + 3 := by
  have h := pay1_nat t l
  have hs := src_lt (trip_lt t l)
  show (k0_pay1 k0_pay11 t (ix1 l) + 3#32).toNat = _
  rw [BitVec.toNat_add, h]; exact Nat.mod_eq_of_lt (by show _ + 3 < 4294967296; omega)

/-- An index vector whose words all lie in the chunk passes the gather's check. -/
theorem chk_of (v : IVec S16 32) (h : ∀ l : Fin 16, (v (ix1 l)).toNat < 49152) :
    ∀ a x, ((![v] : Fin 1 → IVec S16 32) a x).toNat < S49152.size a := by
  intro a x
  obtain rfl : a = 0 := Subsingleton.elim _ _
  rw [eq_ix1 x]
  exact h (x 0)

/-- What a gather reads at a lane. -/
theorem loadIdx_lane (x : S49152.Idx → F .f32) (v : IVec S16 32) (h : ∀ a y, ((![v] : Fin 1 → IVec S16 32) a y).toNat < S49152.size a)
    (l : Fin 16) {n : Nat} (hn : (v (ix1 l)).toNat = n) : (loadIdx (F := F) (e := .f32) x ![v] h) (ix1 l) = rd1 x n := by
  refine (rd1_eq x _ ?_).symm
  exact hn

/-- The four gathers' mean at a lane of trip `t` is the chunk's mean there. -/
theorem trip_mean (x : S49152.Idx → F .f32) (t : Fin k0_t2_loop.trips) (h1 h2 h3 h4) (l : Fin 16) :
    k0_pay5 (loadIdx (F := F) (e := .f32) x ![k0_pay1 k0_pay11 t] h1) (loadIdx (F := F) (e := .f32) x ![k0_pay2 (k0_pay1 k0_pay11 t)] h2)
      (loadIdx (F := F) (e := .f32) x ![k0_pay3 (k0_pay1 k0_pay11 t)] h3) (loadIdx (F := F) (e := .f32) x ![k0_pay4 (k0_pay1 k0_pay11 t)] h4) (ix1 l)
      = avgs x (ix1 ⟨16 * t.val + l.val, trip_lt t l⟩) := by
  show avg4 _ _ _ _ = avg4 _ _ _ _
  rw [loadIdx_lane x _ h1 l (pay1_nat t l), loadIdx_lane x _ h2 l (pay2_nat t l),
    loadIdx_lane x _ h3 l (pay3_nat t l), loadIdx_lane x _ h4 l (pay4_nat t l)]

end Cert.KernelIdeal.Pool
-- ==== Proof.Setup.lean ====
/-
  The program as the launch theorem sees it: its configuration, the resource algebra of the proof (the handshakes' rounds
  beside the transfers' counters), the buffers and the threads.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- Where the handshakes' rounds live; the transfers' counters are the right factor. -/
abbrev EH : Emb UH (MT nD τ sig (HIx 1) (Elt F) ℕ UU ℕ) := embL

/-- The core and the subcore of a tile. -/
abbrev cV (i : grid0.Coords) : Fin τ.nSC := (i 0).castLE hcore0
abbrev jV (i : grid0.Coords) : Fin τ.nSub := (i 1).castLE hsub0
/-- The tile's thread on device `d`. -/
abbrev thr (d : Dev nD) (i : grid0.Coords) : Thread nD τ := V d (cV i) (jV i)

end Cert.KernelIdeal.Pool
-- ==== Proof.Slices.lean ====
/-
  The slices a tile's transfers move: a chunk of the input read as `chunk`, a chunk of the output written to `G`, and
  the ranges of the output the chunks cover.
-/
module

public import proofs.«01_k».proof.Proof.Setup

@[expose] public section

noncomputable section

namespace Cert.KernelIdeal.Pool

open Cert.KernelIdeal Cert.KernelIdeal.Gen

open Idealize.ShloMosaic Idealize.ShloMosaic.ValueIdx

variable {F : FTy → Type} [FloatOps F]

abbrev xM : Memref sig .scVector .hbm S4x2x6291456 .f32 := Memref.whole main_v2_scv
abbrev oM : Memref sig .scVector .hbm S4x2x1572864 .f32 := Memref.whole main_v3_scv

/-- The slice of the input at `off`, as a vector. -/
abbrev inM (off : Fin 3 → Nat) (h : ∀ a, off a + S1x1x49152.size a ≤ S4x2x6291456.size a) : Memref sig .scVector .hbm S49152 .f32 :=
  (xM.slice (Rect.unit (s := S4x2x6291456) off S1x1x49152.size h) (fun _ => rfl)).squeeze S49152 squeezes_S1x1x49152_S49152

/-- The slice of the output at `off`, as a vector. -/
abbrev outM (off : Fin 3 → Nat) (h : ∀ a, off a + S1x1x12288.size a ≤ S4x2x1572864.size a) : Memref sig .scVector .hbm S12288 .f32 :=
  (oM.slice (Rect.unit (s := S4x2x1572864) off S1x1x12288.size h) (fun _ => rfl)).squeeze S12288 squeezes_S1x1x12288_S12288

/-- The squeezed block's position `j` is `(0, 0, j)`. -/
theorem lift_in (j : S49152.Idx) : Shape.reshapeEquiv (squeezes_S1x1x49152_S49152).numel_eq j
    = (ix3 (0 : Fin 1) (0 : Fin 1) (j 0 : Fin 49152) : S1x1x49152.Idx) := by
  apply Shape.reshapeEquiv_eq_of_rowMajor
  refine (Shape.rowMajor_val_three (d := ![1, 1, 49152]) (ix3 (0 : Fin 1) (0 : Fin 1) (j 0 : Fin 49152))).trans ?_
  refine Eq.trans ?_ (Shape.rowMajor_val_one (d := ![49152]) j).symm
  show (0 * 1 + 0) * 49152 + (j 0).val = (j 0).val
  omega

theorem lift_out (j : S12288.Idx) : Shape.reshapeEquiv (squeezes_S1x1x12288_S12288).numel_eq j
    = (ix3 (0 : Fin 1) (0 : Fin 1) (j 0 : Fin 12288) : S1x1x12288.Idx) := by
  apply Shape.reshapeEquiv_eq_of_rowMajor
  refine (Shape.rowMajor_val_three (d := ![1, 1, 12288]) (ix3 (0 : Fin 1) (0 : Fin 1) (j 0 : Fin 12288))).trans ?_
  refine Eq.trans ?_ (Shape.rowMajor_val_one (d := ![12288]) j).symm
  show (0 * 1 + 0) * 12288 + (j 0).val = (j 0).val
  omega

theorem inM_emb {off : Fin 3 → Nat} (h : ∀ a, off a + S1x1x49152.size a ≤ S4x2x6291456.size a) (j : S49152.Idx) :
    (((inM off h).view.emb j : S4x2x6291456.Idx) 0).val = off 0 ∧ (((inM off h).view.emb j : S4x2x6291456.Idx) 1).val = off 1
      ∧ (((inM off h).view.emb j : S4x2x6291456.Idx) 2).val = off 2 + (j 0).val := by
  have e : ∀ a : Fin 3, (((inM off h).view.emb j : S4x2x6291456.Idx) a).val
      = off a + 1 * ((Shape.reshapeEquiv (squeezes_S1x1x49152_S49152).numel_eq j : S1x1x49152.Idx) a).val := fun _ => rfl
  rw [lift_in] at e
  refine ⟨(e 0).trans ?_, (e 1).trans ?_, (e 2).trans ?_⟩
  · show off 0 + 1 * 0 = off 0; omega
  · show off 1 + 1 * 0 = off 1; omega
  · show off 2 + 1 * (j 0).val = _; omega

theorem outM_emb {off : Fin 3 → Nat} (h : ∀ a, off a + S1x1x12288.size a ≤ S4x2x1572864.size a) (j : S12288.Idx) :
    (((outM off h).view.emb j : S4x2x1572864.Idx) 0).val = off 0 ∧ (((outM off h).view.emb j : S4x2x1572864.Idx) 1).val = off 1
      ∧ (((outM off h).view.emb j : S4x2x1572864.Idx) 2).val = off 2 + (j 0).val := by
  have e : ∀ a : Fin 3, (((outM off h).view.emb j : S4x2x1572864.Idx) a).val
      = off a + 1 * ((Shape.reshapeEquiv (squeezes_S1x1x12288_S12288).numel_eq j : S1x1x12288.Idx) a).val := fun _ => rfl
  rw [lift_out] at e
  refine ⟨(e 0).trans ?_, (e 1).trans ?_, (e 2).trans ?_⟩
  · show off 0 + 1 * 0 = off 0; omega
  · show off 1 + 1 * 0 = off 1; omega
  · show off 2 + 1 * (j 0).val = _; omega

/-- Reading the input through the slice of chunk `g` gives that chunk. -/
theorem read_inM (i : grid0.Coords) (g : Nat) {off : Fin 3 → Nat} (h : ∀ a, off a + S1x1x49152.size a ≤ S4x2x6291456.size a)
    (ho : off = inAt i g) (x : S4x2x6291456.Idx → F .f32) : (inM off h).view.read (Elt F) x = chunk x i g := by
  funext j
  obtain ⟨e0, e1, e2⟩ := inM_emb h j
  subst ho
  exact (rd_eq x ((inM (inAt i g) h).view.emb j) e0 e1 e2).symm

/-- The output positions of a tile's chunks `lo`, …, `hi - 1`. -/
def rangeSet (i : grid0.Coords) (lo hi : Nat) : Finset S4x2x1572864.Idx :=
  Finset.univ.filter fun y => (y 0).val = wid i / 8 ∧ (y 1).val = wid i / 4 % 2
    ∧ 393216 * (wid i % 4) + 12288 * lo ≤ (y 2).val ∧ (y 2).val < 393216 * (wid i % 4) + 12288 * hi

theorem mem_rangeSet {i : grid0.Coords} {lo hi : Nat} {y : S4x2x1572864.Idx} : y ∈ rangeSet i lo hi ↔
    (y 0).val = wid i / 8 ∧ (y 1).val = wid i / 4 % 2
    ∧ 393216 * (wid i % 4) + 12288 * lo ≤ (y 2).val ∧ (y 2).val < 393216 * (wid i % 4) + 12288 * hi := by
  unfold rangeSet
  rw [Finset.mem_filter]
  exact and_iff_right (Finset.mem_univ _)

theorem rangeSet_union (i : grid0.Coords) {a b c : Nat} (hab : a ≤ b) (hbc : b ≤ c) : rangeSet i a b ∪ rangeSet i b c = rangeSet i a c := by
  ext y
  rw [Finset.mem_union, mem_rangeSet, mem_rangeSet, mem_rangeSet]
  omega

theorem rangeSet_disjoint (i : grid0.Coords) (a b c : Nat) : Disjoint (rangeSet i a b) (rangeSet i b c) := by
  rw [Finset.disjoint_left]
  intro y h h'
  rw [mem_rangeSet] at h h'
  omega

theorem rangeSet_empty (i : grid0.Coords) (a : Nat) : rangeSet i a a = ∅ := by
  apply Finset.eq_empty_of_forall_notMem
  intro y h
  rw [mem_rangeSet] at h
  omega

/-- The slice of chunk `g` is the range of that one chunk. -/
theorem set_outM (i : grid0.Coords) (g : Nat) {off : Fin 3 → Nat} (h : ∀ a, off a + S1x1x12288.size a ≤ S4x2x1572864.size a)
    (ho : off = outAt i g) : (outM off h).view.set = rangeSet i g (g + 1) := by
  subst ho
  ext y
  rw [mem_rangeSet]
  constructor
  · intro hy
    obtain ⟨j, -, rfl⟩ := Finset.mem_map.mp hy
    obtain ⟨e0, e1, e2⟩ := outM_emb h j
    have hj : (j 0).val < 12288 := (j 0).isLt
    rw [e0, e1, e2]
    show wid i / 8 = _ ∧ wid i / 4 % 2 = _ ∧ _ ≤ 393216 * (wid i % 4) + 12288 * g + _ ∧ 393216 * (wid i % 4) + 12288 * g + _ < _
    omega
  · rintro ⟨h0, h1, h2, h3⟩
    refine Finset.mem_map.mpr ⟨ix1 (⟨(y 2).val - (393216 * (wid i % 4) + 12288 * g), by omega⟩ : Fin 12288), Finset.mem_univ _, ?_⟩
    obtain ⟨e0, e1, e2⟩ := outM_emb h (ix1 (⟨(y 2).val - (393216 * (wid i % 4) + 12288 * g), by omega⟩ : Fin 12288))
    refine funext fun a => Fin.ext ?_
    match a with
    | 0 => exact e0.trans h0.symm
    | 1 => exact e1.trans h1.symm
    | 2 =>
      refine e2.trans ?_
      show 393216 * (wid i % 4) + 12288 * g + ((y 2).val - (393216 * (wid i % 4) + 12288 * g)) = _
      omega

/-- Writing the means of chunk `g` through its slice makes the range the whole array's result. -/
theorem write_outM (i : grid0.Coords) (g : Nat) {off : Fin 3 → Nat} (h : ∀ a, off a + S1x1x12288.size a ≤ S4x2x1572864.size a)
    (ho : off = outAt i g) (x : S4x2x6291456.Idx → F .f32) (fd : S4x2x1572864.Idx → F .f32) (w : S12288.Idx → F .f32)
    (hw : ∀ j, w j = avgs (chunk x i g) j) (y : S4x2x1572864.Idx) (hy : y ∈ rangeSet i g (g + 1)) :
    (outM off h).view.write (Elt F) fd w Finset.univ y = G x y := by
  subst ho
  rw [← set_outM i g h rfl] at hy
  obtain ⟨j, -, rfl⟩ := Finset.mem_map.mp hy
  obtain ⟨e0, e1, e2⟩ := outM_emb h j
  refine (View.write_emb_of_mem (Val := Elt F) (v := (outM (outAt i g) h).view) fd w (Finset.mem_univ j)).trans ?_
  refine Eq.trans ?_ (avgs_chunk x i g j ((outM (outAt i g) h).view.emb j) e0 e1 e2)
  exact hw j

theorem wid_lt (i : grid0.Coords) : wid i < 32 := by
  have h0 : (i 0).val < 2 := (i 0).isLt
  have h1 : (i 1).val < 16 := (i 1).isLt
  unfold wid; omega

end Cert.KernelIdeal.Pool
-- ==== Proof.Moves.lean ====
/-
  A tile's transfers: what a fetch and a write-back hold while in flight, their starts and their waits.
-/
module

public import proofs.«01_k».proof.Proof.Slices
public import Idealize.ShloMosaic.Lib.Transfers

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The transfers' counters in the proof's algebra. -/
abbrev EC : UEmb Counters (MT nD τ sig (HIx 1) (Elt F) ℕ UU ℕ) := countersEmb

/-- The input and the output as a tile names them. -/
abbrev xL (d : Dev nD) (i : grid0.Coords) : Loc nD τ sig := xM.view.loc (thr d i)
abbrev oL (d : Dev nD) (i : grid0.Coords) : Loc nD τ sig := oM.view.loc (thr d i)

variable (d : Dev nD) (i : grid0.Coords)

/-- What a tile owes, up to waits it has recorded at no index. -/
def Owed (O : CellTallies nD τ sig (HIx 1)) (W : Waits sig (HIx 1)) : sProp 𝕄 :=
  iprop(∃ W' : Waits sig (HIx 1), ⌜∀ p ∈ W', p ∈ W ∨ p.2 = none⌝ ∗ owes (thr d i) O W')

/-- A scratch buffer at some contents. -/
def Idle {s : Shape} (a : Memref sig .scVector .vmem s .f32) : sProp 𝕄 :=
  iprop(∃ f : Buf (Elt F) (a.view.loc (thr d i)), (a.view.loc (thr d i) ↦{fullShare} f))

/-- A scratch buffer reading as `w`. -/
def Holds {s : Shape} (a : Memref sig .scVector .vmem s .f32) (w : s.Idx → F .f32) : sProp 𝕄 :=
  iprop(∃ f : Buf (Elt F) (a.view.loc (thr d i)), ⌜∀ j, a.view.read (Elt F) f j = w j⌝ ∗ (a.view.loc (thr d i) ↦{fullShare} f))

/-- A fetch of chunk `g` into `a` in flight on `sem`. -/
def Fetching (a : Memref sig .scVector .vmem S49152 .f32) (sem : DmaSem sig) (q : PosShare TreeShare)
    (x : S4x2x6291456.Idx → F .f32) (g : Nat) : sProp 𝕄 :=
  iprop(∃ S : Finset S4x2x6291456.Idx,
    Transfers.Flight EC (thr d i) (.dma sem) (none : HIx 1) a.view.dmaCredit
      iprop(Holds d i a (chunk x i g) ∗ (xL d i ↦[S]{q} x))
    ∗ (xL d i ↦[Finset.univ \ S]{q} x))

theorem fetch_start {a : Memref sig .scVector .vmem S49152 .f32} {sem : DmaSem sig} {q : PosShare TreeShare}
    {x : S4x2x6291456.Idx → F .f32} {g : Nat} {off : Fin 3 → Nat}
    {h : ∀ a, off a + S1x1x49152.size a ≤ S4x2x6291456.size a} (ho : off = inAt i g)
    {hsrc : (inM off h).view.WordExact} {hdst : a.view.WordExact} {hsem : (DmaTarget.here a : DmaTarget nD τ sig (thr d i).2 .vmem S49152 .f32).Typed .hbm (.dma sem)}
    {Q : PUnit → sProp 𝕄} :
    (iprop((xL d i ↦{q} x) ∗ Idle d i a ∗ semVal (thr d i, .dma sem) 0) : sProp 𝕄)
      ⊢ iprop((Fetching d i a sem q x g -∗ Q ⟨⟩)
          -∗ wp frame (wpE (defs₀ (F := F)) 𝒱₀ (thr d i) none) Set.univ (Prog.lift (.enqueueDma (inM off h) (.here a) (.dma sem) hsrc hdst hsem)) Q) := by
  unfold Idle
  iintro ⟨HX, ⟨%f, HA⟩, HV⟩ HK
  ihave ⟨HS, HR⟩ := (pointsTo_split_subset (Finset.subset_univ (inM off h).view.set)).1 $$ HX
  iapply (Transfers.wp_dmaLocal EC 𝒱₀ (thr d i) none (src := inM off h) (via := .same) (dst := a) (Sd := Finset.univ) (fd := f)
    (none : HIx 1) a.view.dmaCredit rfl (View.dmaCredit_pos _ (by decide)) (Finset.subset_univ _)) $$ [HS HA HV]
  · isplitl [HS]; · iexact HS
    isplitl [HA] <;> iassumption
  iintro HF
  rw [wp_ret]
  imodintro
  iapply HK
  unfold Fetching
  iexists (inM off h).view.set
  isplitr [HR]
  · iapply (Transfers.Flight_mono EC (thr d i) ?hm) $$ HF
    case hm =>
      iintro ⟨HA, HX⟩
      isplitl [HA]
      · unfold Holds
        iexists a.view.write (Elt F) f (ReadAs.same.apply ((inM off h).view.read (Elt F) x)) Finset.univ
        isplitr
        · ipureintro
          intro j
          rw [View.read_write_univ]
          exact congrFun (read_inM i g h ho x) j
        · iexact HA
      · iexact HX
  · iexact HR

theorem fetch_wait {a : Memref sig .scVector .vmem S49152 .f32} {sem : DmaSem sig} {q : PosShare TreeShare}
    {x : S4x2x6291456.Idx → F .f32} {g : Nat} {s' : Shape} {e' : EltTy} {sp' : Space} {srcw : Memref sig .scVector sp' s' e'}
    {hsrc : srcw.view.WordExact} {hdst : a.view.WordExact} {O : CellTallies nD τ sig (HIx 1)} {W : Waits sig (HIx 1)}
    {Q : PUnit → sProp 𝕄} :
    (iprop(Fetching d i a sem q x g ∗ Owed d i O W ∗ Transfers.MayWaits (thr d i) (none : HIx 1) O) : sProp 𝕄)
      ⊢ iprop((iprop((xL d i ↦{q} x) ∗ Holds d i a (chunk x i g) ∗ semVal (thr d i, .dma sem) 0 ∗ Owed d i O W) -∗ Q ⟨⟩)
          -∗ wp frame (wpE (defs₀ (F := F)) 𝒱₀ (thr d i) none) Set.univ (Prog.lift (.waitDma2 sem srcw a hsrc hdst)) Q) := by
  unfold Fetching Owed
  iintro ⟨⟨%S, HF, HR⟩, ⟨%W', %hW, HO⟩, HM⟩ HK
  ihave HM := (Transfers.MayWaits.elim (.dma sem)) $$ HM
  iapply (Transfers.wp_waitLocalO EC 𝒱₀ (thr d i) none (none : HIx 1) rfl) $$ [HF HO HM]
  · isplitl [HF]; · iexact HF
    isplitl [HO] <;> iassumption
  iintro ⟨⟨HA, HS⟩, HV, HO⟩
  rw [wp_ret]
  imodintro
  iapply HK
  isplitl [HS HR]
  · iapply (pointsTo_split_subset (Finset.subset_univ S)).2
    isplitl [HS] <;> iassumption
  isplitl [HA]; · iexact HA
  isplitl [HV]; · iexact HV
  iexists (insert ((SemLoc.dma sem : SemLoc sig), (none : HIx 1)) W')
  isplitr
  · ipureintro
    intro p hp
    rcases Finset.mem_insert.mp hp with rfl | hp
    · exact .inr rfl
    · exact hW p hp
  · iexact HO

/-- What a write-back credits. -/
abbrev outN : Nat := (outM ![0, 0, 0] (by decide)).view.dmaCredit

/-- A write-back of chunk `g`'s means from `a` in flight on `sem`. -/
def Storing (a : Memref sig .scVector .vmem S12288 .f32) (sem : DmaSem sig)
    (x : S4x2x6291456.Idx → F .f32) (g : Nat) : sProp 𝕄 :=
  Transfers.Flight EC (thr d i) (.dma sem) (none : HIx 1) outN
    iprop((oL d i ↦[rangeSet i g (g + 1)]{fullShare} G x) ∗ Idle d i a)

theorem store_start {a : Memref sig .scVector .vmem S12288 .f32} (ha : a.IsWhole) {sem : DmaSem sig}
    {x : S4x2x6291456.Idx → F .f32} {fo : S4x2x1572864.Idx → F .f32} {g : Nat} {off : Fin 3 → Nat}
    {h : ∀ a, off a + S1x1x12288.size a ≤ S4x2x1572864.size a} (ho : off = outAt i g)
    {hsrc : a.view.WordExact} {hdst : (outM off h).view.WordExact} {hsem : (DmaTarget.here (outM off h) : DmaTarget nD τ sig (thr d i).2 .hbm S12288 .f32).Typed .vmem (.dma sem)}
    {Q : PUnit → sProp 𝕄} :
    (iprop((oL d i ↦[rangeSet i g (g + 1)]{fullShare} fo) ∗ Holds d i a (avgs (chunk x i g)) ∗ semVal (thr d i, .dma sem) 0) : sProp 𝕄)
      ⊢ iprop((Storing d i a sem x g -∗ Q ⟨⟩)
          -∗ wp frame (wpE (defs₀ (F := F)) 𝒱₀ (thr d i) none) Set.univ (Prog.lift (.enqueueDma a (.here (outM off h)) (.dma sem) hsrc hdst hsem)) Q) := by
  unfold Holds
  iintro ⟨HX, ⟨%f, %hf, HA⟩, HV⟩ HK
  iapply (Transfers.wp_dmaLocal EC 𝒱₀ (thr d i) none (src := a) (via := .same) (dst := outM off h) (Sd := rangeSet i g (g + 1)) (fd := fo)
    (q := fullShare) (fs := f) (none : HIx 1) outN rfl (View.dmaCredit_pos _ (by decide)) (set_outM i g h ho).subset) $$ [HX HA HV]
  · isplitl [HA]
    · rw [ha.set_eq_univ]; iexact HA
    isplitl [HX] <;> iassumption
  iintro HF
  rw [wp_ret]
  imodintro
  iapply HK
  unfold Storing
  iapply (Transfers.Flight_mono EC (thr d i) ?hm) $$ HF
  case hm =>
    iintro ⟨HX, HA⟩
    isplitl [HX]
    · iapply (Entails.of_eq (pointsTo_congr (ℓ := oL d i) (I := rangeSet i g (g + 1))
        (f := (outM off h).view.write (Elt F) fo (a.view.read (Elt F) f) Finset.univ) (g := G x)
        (write_outM i g h ho x fo (a.view.read (Elt F) f) hf))) $$ HX
    · unfold Idle
      iexists f
      rw [ha.set_eq_univ]
      iexact HA

theorem store_wait {a : Memref sig .scVector .vmem S12288 .f32} {sem : DmaSem sig}
    {x : S4x2x6291456.Idx → F .f32} {g : Nat} {s' : Shape} {e' : EltTy} {sp' : Space} {srcw : Memref sig .scVector sp' s' e'} {off : Fin 3 → Nat}
    {h : ∀ a, off a + S1x1x12288.size a ≤ S4x2x1572864.size a}
    {hsrc : srcw.view.WordExact} {hdst : (outM off h).view.WordExact} {O : CellTallies nD τ sig (HIx 1)} {W : Waits sig (HIx 1)}
    {Q : PUnit → sProp 𝕄} :
    (iprop(Storing d i a sem x g ∗ Owed d i O W ∗ Transfers.MayWaits (thr d i) (none : HIx 1) O) : sProp 𝕄)
      ⊢ iprop((iprop((oL d i ↦[rangeSet i g (g + 1)]{fullShare} G x) ∗ Idle d i a ∗ semVal (thr d i, .dma sem) 0 ∗ Owed d i O W) -∗ Q ⟨⟩)
          -∗ wp frame (wpE (defs₀ (F := F)) 𝒱₀ (thr d i) none) Set.univ (Prog.lift (.waitDma2 sem srcw (outM off h) hsrc hdst)) Q) := by
  unfold Storing Owed
  iintro ⟨HF, ⟨%W', %hW, HO⟩, HM⟩ HK
  ihave HM := (Transfers.MayWaits.elim (.dma sem)) $$ HM
  iapply (Transfers.wp_waitLocalO EC 𝒱₀ (thr d i) none (none : HIx 1) (dstw := outM off h) rfl) $$ [HF HO HM]
  · isplitl [HF]; · iexact HF
    isplitl [HO] <;> iassumption
  iintro ⟨⟨HX, HA⟩, HV, HO⟩
  rw [wp_ret]
  imodintro
  iapply HK
  isplitl [HX]; · iexact HX
  isplitl [HA]; · iexact HA
  isplitl [HV]; · iexact HV
  iexists (insert ((SemLoc.dma sem : SemLoc sig), (none : HIx 1)) W')
  isplitr
  · ipureintro
    intro p hp
    rcases Finset.mem_insert.mp hp with rfl | hp
    · exact .inr rfl
    · exact hW p hp
  · iexact HO

end Cert.KernelIdeal.Pool
-- ==== Proof.Trip.lean ====
/-
  The inner loop: each trip gathers sixteen groups of four elements of the fetched chunk and stores their means.
-/
module

public import proofs.«01_k».proof.Proof.Setup

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sixteen positions trip `t` stores. -/
abbrev tripRect (t : Fin k0_t2_loop.trips) : Rect S12288 := Rect.unit (s := S12288) (k0_off4 t) S16.size (k0_off4_inb t)

/-- The first `n` positions of an output buffer hold the means of `X`. -/
def Upto (M : Memref sig .scVector .vmem S12288 .f32) (X : S49152.Idx → F .f32) (n : Nat) (f : M.view.ty.Contents (Elt F)) : Prop :=
  ∀ j : S12288.Idx, (j 0).val < n → M.view.read (Elt F) f j = avgs X j

theorem tripRect_val (t : Fin k0_t2_loop.trips) (x : S16.Idx) : ((tripRect t).emb x 0).val = 16 * t.val + (x 0).val := by
  rw [Rect.emb_apply]
  show k0_off4 t 0 + 1 * (x 0).val = 16 * t.val + (x 0).val
  rw [k0_off4_eq, Nat.one_mul]
  rfl

theorem idx1_ext {n : Nat} {x y : (⟨1, ![n]⟩ : Shape).Idx} (h : (x 0).val = (y 0).val) : x = y := by
  funext a
  match a with
  | ⟨0, _⟩ => exact Fin.ext h

/-- Storing trip `t`'s means extends the means by sixteen positions. -/
theorem upto_store (M : Memref sig .scVector .vmem S12288 .f32) (X : S49152.Idx → F .f32) (t : Fin k0_t2_loop.trips)
    (f : M.view.ty.Contents (Elt F)) (w : S16.Idx → F .f32) (hf : Upto M X (16 * t.val) f)
    (hw : ∀ l : Fin 16, w (ix1 l) = avgs X (ix1 ⟨16 * t.val + l.val, trip_lt t l⟩)) :
    Upto M X (16 * (t.val + 1)) ((M.access (tripRect t)).write (Elt F) f w Finset.univ) := by
  intro j hj
  by_cases h : (j 0).val < 16 * t.val
  · refine Eq.trans ?_ (hf j h)
    rw [View.read_apply, View.read_apply, View.write_of_not_mem]
    intro hm
    obtain ⟨x, -, hx⟩ := Finset.mem_map.mp hm
    have e := M.view.emb.injective (show M.view.emb ((tripRect t).emb x) = M.view.emb j from hx)
    have e0 : 16 * t.val + (x 0).val = (j 0).val := (tripRect_val t x).symm.trans (congrArg (fun y : S12288.Idx => (y 0).val) e)
    omega
  · have hl : (j 0).val - 16 * t.val < 16 := by omega
    let x : S16.Idx := ix1 ⟨(j 0).val - 16 * t.val, hl⟩
    have ej : (tripRect t).emb x = j := idx1_ext (by
      rw [tripRect_val]
      show 16 * t.val + ((j 0).val - 16 * t.val) = (j 0).val
      omega)
    have hr := View.read_write_of_mem (v := M.access (tripRect t)) (Val := Elt F) f w (Finset.mem_univ x)
    have ea : avgs X (ix1 ⟨16 * t.val + ((j 0).val - 16 * t.val), trip_lt t ⟨_, hl⟩⟩) = avgs X j :=
      congrArg (avgs X) (idx1_ext (by show 16 * t.val + ((j 0).val - 16 * t.val) = (j 0).val; omega))
    refine Eq.trans ?_ (hr.trans ((hw ⟨(j 0).val - 16 * t.val, hl⟩).trans ea))
    have hj' : ∀ (g : M.view.ty.Contents (Elt F)) (y : S16.Idx) (k : S12288.Idx), (tripRect t).emb y = k →
        M.view.read (Elt F) g k = (M.access (tripRect t)).read (Elt F) g y := by
      rintro g y _ rfl
      rfl
    exact hj' _ x j ej

theorem read_access_whole (M : Memref sig .scVector .vmem S49152 .f32) (f : M.view.ty.Contents (Elt F)) :
    (M.access (.whole S49152)).read (Elt F) f = M.view.read (Elt F) f := by
  funext x
  rw [View.read_apply, View.read_apply]
  show _root_.cast _ (f (M.view.emb ((Rect.whole S49152).emb x))) = _
  rw [show (Rect.whole S49152).emb x = x from idx1_ext (by rw [Rect.emb_apply]; show 0 + 1 * (x 0).val = _; omega)]

/-- The means trip `t` stores, of what the chunk's buffer reads. -/
abbrev tripPay (M : Memref sig .scVector .vmem S49152 .f32) (fx : M.view.ty.Contents (Elt F)) (t : Fin k0_t2_loop.trips)
    (h1 : k0_chk1 (k0_pay1 k0_pay11 t)) (h2 : k0_chk2 (k0_pay2 (k0_pay1 k0_pay11 t)))
    (h3 : k0_chk3 (k0_pay3 (k0_pay1 k0_pay11 t))) (h4 : k0_chk4 (k0_pay4 (k0_pay1 k0_pay11 t))) : FVec F S16 .f32 :=
  k0_pay5 (loadIdx (F := F) (e := .f32) ((M.access (.whole S49152)).read (Elt F) fx) ![k0_pay1 k0_pay11 t] (k0_idx1_inb _ h1))
    (loadIdx (F := F) (e := .f32) ((M.access (.whole S49152)).read (Elt F) fx) ![k0_pay2 (k0_pay1 k0_pay11 t)] (k0_idx2_inb _ h2))
    (loadIdx (F := F) (e := .f32) ((M.access (.whole S49152)).read (Elt F) fx) ![k0_pay3 (k0_pay1 k0_pay11 t)] (k0_idx3_inb _ h3))
    (loadIdx (F := F) (e := .f32) ((M.access (.whole S49152)).read (Elt F) fx) ![k0_pay4 (k0_pay1 k0_pay11 t)] (k0_idx4_inb _ h4))

/-- One trip: from the means up to trip `t`'s positions to the means up to the next trip's. -/
theorem trip_step (d : Dev nD) (i : grid0.Coords) (arg2 : Memref sig .scVector .hbm S4x2x6291456 .f32) (harg2 : arg2.IsWhole)
    (arg3 : Memref sig .scVector .hbm S4x2x1572864 .f32) (harg3 : arg3.IsWhole)
    (arg4 : Memref sig .scVector .vmem S49152 .f32) (harg4 : arg4.IsWhole) (arg5 : Memref sig .scVector .vmem S49152 .f32) (harg5 : arg5.IsWhole)
    (arg6 : Memref sig .scVector .vmem S12288 .f32) (harg6 : arg6.IsWhole) (arg7 : Memref sig .scVector .vmem S12288 .f32) (harg7 : arg7.IsWhole)
    (arg8 arg9 arg10 arg11 : DmaSems sig S_) (v56 c0 c1 : BitVec 32) (t1 : Fin k0_t1_loop.trips) (t : Fin k0_t2_loop.trips) (u : Unit)
    (X : S49152.Idx → F .f32) (fx : Buf (Elt F) (arg4.view.loc (thr d i))) (hx : arg4.view.read (Elt F) fx = X)
    (f : Buf (Elt F) (arg6.view.loc (thr d i))) (hf : Upto arg6 X (16 * t.val) f) :
    (iprop((arg4.view.loc (thr d i) ↦{fullShare} fx) ∗ (arg6.view.loc (thr d i) ↦{fullShare} f)) : sProp 𝕄)
      ⊢ wp frame (wpE (defs₀ (F := F)) 𝒱₀ (thr d i) none) Set.univ
          (k0_t2_body i arg2 harg2 arg3 harg3 arg4 harg4 arg5 harg5 arg6 harg6 arg7 harg7 arg8 arg9 arg10 arg11 v56 k0_pay11 c0 c1 t1 t u)
          fun _ => iprop((arg4.view.loc (thr d i) ↦{fullShare} fx)
            ∗ ∃ f' : Buf (Elt F) (arg6.view.loc (thr d i)), ⌜Upto arg6 X (16 * (t.val + 1)) f'⌝ ∗ (arg6.view.loc (thr d i) ↦{fullShare} f')) := by
  have hs := fun l => src_lt (trip_lt t l)
  have h1 : k0_chk1 (k0_pay1 k0_pay11 t) := chk_of (k0_pay1 k0_pay11 t) fun l => by rw [pay1_nat]; have := hs l; omega
  have h2 : k0_chk2 (k0_pay2 (k0_pay1 k0_pay11 t)) := chk_of (k0_pay2 (k0_pay1 k0_pay11 t)) fun l => by rw [pay2_nat]; have := hs l; omega
  have h3 : k0_chk3 (k0_pay3 (k0_pay1 k0_pay11 t)) := chk_of (k0_pay3 (k0_pay1 k0_pay11 t)) fun l => by rw [pay3_nat]; have := hs l; omega
  have h4 : k0_chk4 (k0_pay4 (k0_pay1 k0_pay11 t)) := chk_of (k0_pay4 (k0_pay1 k0_pay11 t)) fun l => by rw [pay4_nat]; have := hs l; omega
  have hU : Upto arg6 X (16 * (t.val + 1)) ((arg6.access (tripRect t)).write (Elt F) f (tripPay arg4 fx t h1 h2 h3 h4) Finset.univ) := by
    refine upto_store arg6 X t f _ hf fun l => ?_
    unfold tripPay
    rw [read_access_whole, hx]
    exact trip_mean X t h1 h2 h3 h4 l
  unfold k0_t2_body
  simp only [Prog.lift, Prog.bind_op, Prog.bind_ret, Prog.pure_eq_ret]
  iintro ⟨HX, HF⟩
  rw [wp_assume_of _ _ _ _ h1]
  iapply (SparseCore.wp_vectorLoadIdx 𝒱₀ (thr d i) none Set.univ (base := arg4) (S := Finset.univ) (q := fullShare) (Finset.subset_univ _)) $$ HX
  iintro HX
  rw [wp_assume_of _ _ _ _ h2]
  iapply (SparseCore.wp_vectorLoadIdx 𝒱₀ (thr d i) none Set.univ (base := arg4) (S := Finset.univ) (q := fullShare) (Finset.subset_univ _)) $$ HX
  iintro HX
  rw [wp_assume_of _ _ _ _ h3]
  iapply (SparseCore.wp_vectorLoadIdx 𝒱₀ (thr d i) none Set.univ (base := arg4) (S := Finset.univ) (q := fullShare) (Finset.subset_univ _)) $$ HX
  iintro HX
  rw [wp_assume_of _ _ _ _ h4]
  iapply (SparseCore.wp_vectorLoadIdx 𝒱₀ (thr d i) none Set.univ (base := arg4) (S := Finset.univ) (q := fullShare) (Finset.subset_univ _)) $$ HX
  iintro HX
  iapply (wp_load 𝒱₀ (thr d i) none Set.univ (m := arg6) (S := Finset.univ) (q := fullShare) (Finset.subset_univ _)) $$ HF
  iintro HF
  iapply (wp_store 𝒱₀ (thr d i) none Set.univ (m := arg6) (r := tripRect t) (Mk := Finset.univ) (S := Finset.univ) (Finset.subset_univ _)) $$ HF
  iintro HF
  rw [wp_ret]; imodintro
  isplitl [HX]; · iexact HX
  iexists ((arg6.access (tripRect t)).write (Elt F) f (tripPay arg4 fx t h1 h2 h3 h4) Finset.univ)
  isplitr
  · ipureintro; exact hU
  · iexact HF

/-- The second buffer's trip is the first's at the second pair of buffers. -/
theorem t3_body_eq (i : grid0.Coords) (arg2 : Memref sig .scVector .hbm S4x2x6291456 .f32) (harg2 : arg2.IsWhole)
    (arg3 : Memref sig .scVector .hbm S4x2x1572864 .f32) (harg3 : arg3.IsWhole)
    (arg4 : Memref sig .scVector .vmem S49152 .f32) (harg4 : arg4.IsWhole) (arg5 : Memref sig .scVector .vmem S49152 .f32) (harg5 : arg5.IsWhole)
    (arg6 : Memref sig .scVector .vmem S12288 .f32) (harg6 : arg6.IsWhole) (arg7 : Memref sig .scVector .vmem S12288 .f32) (harg7 : arg7.IsWhole)
    (arg8 arg9 arg10 arg11 : DmaSems sig S_) (v56 : BitVec 32) (v71 : IVec S16 32) (arg12 v120 c2 c0 c1 : BitVec 32) (t1 : Fin k0_t1_loop.trips) :
    k0_t3_body (F := F) i arg2 harg2 arg3 harg3 arg4 harg4 arg5 harg5 arg6 harg6 arg7 harg7 arg8 arg9 arg10 arg11 v56 v71 t1 arg12 v120 c2
      = k0_t2_body (F := F) i arg2 harg2 arg3 harg3 arg5 harg5 arg4 harg4 arg7 harg7 arg6 harg6 arg8 arg9 arg10 arg11 v56 v71 c0 c1 t1 := rfl

/-- The inner loop: a chunk's buffer and an output buffer in, the output buffer at the chunk's means out. -/
theorem inner_loop (d : Dev nD) (i : grid0.Coords) (arg2 : Memref sig .scVector .hbm S4x2x6291456 .f32) (harg2 : arg2.IsWhole)
    (arg3 : Memref sig .scVector .hbm S4x2x1572864 .f32) (harg3 : arg3.IsWhole)
    (arg4 : Memref sig .scVector .vmem S49152 .f32) (harg4 : arg4.IsWhole) (arg5 : Memref sig .scVector .vmem S49152 .f32) (harg5 : arg5.IsWhole)
    (arg6 : Memref sig .scVector .vmem S12288 .f32) (harg6 : arg6.IsWhole) (arg7 : Memref sig .scVector .vmem S12288 .f32) (harg7 : arg7.IsWhole)
    (arg8 arg9 arg10 arg11 : DmaSems sig S_) (v56 c0 c1 : BitVec 32) (t1 : Fin k0_t1_loop.trips)
    (X : S49152.Idx → F .f32) (fx : Buf (Elt F) (arg4.view.loc (thr d i))) (hx : arg4.view.read (Elt F) fx = X)
    {β : Type} {kk : Unit → Prog (TpuEff nD τ sig (Elt F) Λ₀ (thr d i).2) β} {Q : β → sProp 𝕄} :
    (iprop((arg4.view.loc (thr d i) ↦{fullShare} fx) ∗ ∃ f : Buf (Elt F) (arg6.view.loc (thr d i)), (arg6.view.loc (thr d i) ↦{fullShare} f)) : sProp 𝕄)
      ⊢ iprop((∀ u, iprop((arg4.view.loc (thr d i) ↦{fullShare} fx)
              ∗ ∃ f' : Buf (Elt F) (arg6.view.loc (thr d i)), ⌜∀ j, arg6.view.read (Elt F) f' j = avgs X j⌝ ∗ (arg6.view.loc (thr d i) ↦{fullShare} f'))
            -∗ wp frame (wpE (defs₀ (F := F)) 𝒱₀ (thr d i) none) Set.univ (kk u) Q)
          -∗ wp frame (wpE (defs₀ (F := F)) 𝒱₀ (thr d i) none) Set.univ
            (Scf.Loop.for k0_t2_loop k0_t2_ok ⟨⟩
              (k0_t2_body i arg2 harg2 arg3 harg3 arg4 harg4 arg5 harg5 arg6 harg6 arg7 harg7 arg8 arg9 arg10 arg11 v56 k0_pay11 c0 c1 t1) >>= kk) Q) := by
  iintro ⟨HX, %f, HF⟩ HK
  iapply (Scf.wp_for_bind frame (wpE (defs₀ (F := F)) 𝒱₀ (thr d i) none) Set.univ _ _ _ k0_t2_ok _ _
    (fun n _ => iprop((arg4.view.loc (thr d i) ↦{fullShare} fx)
      ∗ ∃ f' : Buf (Elt F) (arg6.view.loc (thr d i)), ⌜Upto arg6 X (16 * n) f'⌝ ∗ (arg6.view.loc (thr d i) ↦{fullShare} f'))) ?hb) $$ [HX HF]
  case hb =>
    intro t u
    iintro ⟨HX, %f, %hf, HF⟩
    iapply (trip_step d i arg2 harg2 arg3 harg3 arg4 harg4 arg5 harg5 arg6 harg6 arg7 harg7 arg8 arg9 arg10 arg11 v56 c0 c1 t1 t u X fx hx f hf)
    isplitl [HX] <;> iassumption
  · isplitl [HX]; · iexact HX
    iexists f
    isplitr
    · ipureintro; intro j hj; exact absurd hj (Nat.not_lt_zero _)
    · iexact HF
  iintro %u ⟨HX, %f', %hf', HF⟩
  iapply HK
  isplitl [HX]; · iexact HX
  iexists f'
  isplitr
  · ipureintro
    intro j
    refine hf' j (lt_of_lt_of_eq (j 0).isLt ?_)
    show 12288 = 16 * k0_t2_loop.trips
    rw [trips2]
  · iexact HF

end Cert.KernelIdeal.Pool
-- ==== Proof.Pieces.lean ====
/-
  The pieces of a trip of the outer loop: the conditional waits and starts, and the inner loop over the buffers' states.
-/
module

public import proofs.«01_k».proof.Proof.Moves
public import proofs.«01_k».proof.Proof.Trip

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- A program of tile `i` run to `Q`. -/
abbrev run {β : Type} (p : Prog (TpuEff nD τ sig (Elt F) Λ₀ (thr d i).2) β) (Q : β → sProp 𝕄) : sProp 𝕄 :=
  wp frame (wpE (defs₀ (F := F)) 𝒱₀ (thr d i) none) Set.univ p Q

/-- What a buffer holds is some contents. -/
theorem Holds.idle {s : Shape} {a : Memref sig .scVector .vmem s .f32} {w : s.Idx → F .f32} :
    (Holds d i a w : sProp 𝕄) ⊢ Idle d i a := by
  unfold Holds Idle
  iintro ⟨%f, -, H⟩
  iexists f
  iexact H

/-- The inner loop fills the output buffer with the chunk's means. -/
theorem fill (arg2 : Memref sig .scVector .hbm S4x2x6291456 .f32) (harg2 : arg2.IsWhole)
    (arg3 : Memref sig .scVector .hbm S4x2x1572864 .f32) (harg3 : arg3.IsWhole)
    (arg4 : Memref sig .scVector .vmem S49152 .f32) (harg4 : arg4.IsWhole) (arg5 : Memref sig .scVector .vmem S49152 .f32) (harg5 : arg5.IsWhole)
    (arg6 : Memref sig .scVector .vmem S12288 .f32) (harg6 : arg6.IsWhole) (arg7 : Memref sig .scVector .vmem S12288 .f32) (harg7 : arg7.IsWhole)
    (arg8 arg9 arg10 arg11 : DmaSems sig S_) (v56 c0 c1 : BitVec 32) (t1 : Fin k0_t1_loop.trips)
    (X : S49152.Idx → F .f32) {Q : Unit → sProp 𝕄} :
    (iprop(Holds d i arg4 X ∗ Idle d i arg6) : sProp 𝕄)
      ⊢ iprop((iprop(Holds d i arg4 X ∗ Holds d i arg6 (avgs X)) -∗ Q ⟨⟩)
          -∗ run d i (Scf.Loop.for k0_t2_loop k0_t2_ok ⟨⟩
              (k0_t2_body i arg2 harg2 arg3 harg3 arg4 harg4 arg5 harg5 arg6 harg6 arg7 harg7 arg8 arg9 arg10 arg11 v56 k0_pay11 c0 c1 t1)) Q) := by
  unfold Holds Idle
  iintro ⟨⟨%fx, %hx, HX⟩, HA⟩ HK
  rw [← bind_pure (Scf.Loop.for k0_t2_loop k0_t2_ok ⟨⟩
    (k0_t2_body i arg2 harg2 arg3 harg3 arg4 harg4 arg5 harg5 arg6 harg6 arg7 harg7 arg8 arg9 arg10 arg11 v56 k0_pay11 c0 c1 t1))]
  iapply (inner_loop d i arg2 harg2 arg3 harg3 arg4 harg4 arg5 harg5 arg6 harg6 arg7 harg7 arg8 arg9 arg10 arg11 v56 c0 c1 t1 X fx (funext hx)) $$ [HX HA]
  · isplitl [HX] <;> iassumption
  iintro %u ⟨HX, HA⟩
  rw [Prog.pure_eq_ret, wp_ret]
  imodintro
  iapply HK
  isplitl [HX]
  · iexists fx
    isplitr
    · ipureintro; exact hx
    · iexact HX
  · iexact HA

/-- An input buffer before trip `t`: its chunk of that trip in flight, idle after the last. -/
def InSt (a : Memref sig .scVector .vmem S49152 .f32) (sem : DmaSem sig) (q : PosShare TreeShare)
    (x : S4x2x6291456.Idx → F .f32) (b t : Nat) : sProp 𝕄 :=
  if t < 16 then Fetching d i a sem q x (2 * t + b)
  else iprop((xL d i ↦{q} x) ∗ Idle d i a ∗ semVal (thr d i, .dma sem) 0)

/-- An output buffer before trip `t`: its chunk of the trip before in flight, idle before the first. -/
def OutSt (a : Memref sig .scVector .vmem S12288 .f32) (sem : DmaSem sig)
    (x : S4x2x6291456.Idx → F .f32) (b t : Nat) : sProp 𝕄 :=
  if 0 < t then Storing d i a sem x (2 * t - 2 + b) else iprop(Idle d i a ∗ semVal (thr d i, .dma sem) 0)

/-- The finished output grows by the chunk a wait delivers. -/
theorem grow (x : S4x2x6291456.Idx → F .f32) (g : Nat) :
    (iprop((oL d i ↦[rangeSet i 0 g]{fullShare} G x) ∗ (oL d i ↦[rangeSet i g (g + 1)]{fullShare} G x)) : sProp 𝕄)
      ⊢ (oL d i ↦[rangeSet i 0 (g + 1)]{fullShare} G x) := by
  rw [← rangeSet_union i (Nat.zero_le g) (Nat.le_succ g)]
  exact (pointsTo_union (rangeSet_disjoint i 0 g (g + 1))).2

/-- The first chunk comes off the output still to be written. -/
theorem shrink (f : S4x2x1572864.Idx → F .f32) {g n : Nat} (h : g + 1 ≤ n) :
    ((oL d i ↦[rangeSet i g n]{fullShare} f) : sProp 𝕄)
      ⊢ iprop((oL d i ↦[rangeSet i g (g + 1)]{fullShare} f) ∗ (oL d i ↦[rangeSet i (g + 1) n]{fullShare} f)) := by
  rw [← rangeSet_union i (Nat.le_succ g) h]
  exact (pointsTo_union (rangeSet_disjoint i g (g + 1) n)).1

/-- The wait for the write-back of the trip before, where there is one. -/
theorem wait_if {a : Memref sig .scVector .vmem S12288 .f32} {sem : DmaSem sig} {x : S4x2x6291456.Idx → F .f32} {t b : Nat}
    {C : Prop} [Decidable C] (hC : C ↔ 0 < t) {n m : Nat} (hn : 0 < t → n = 2 * t - 2 + b) (hm : 0 < t → m = n + 1) (hb : ¬ 0 < t → n = m)
    {off : C → Fin 3 → Nat} {h : ∀ (hc : C) (a : Fin 3), off hc a + S1x1x12288.size a ≤ S4x2x1572864.size a}
    {hsrc : C → a.view.WordExact} {hdst : ∀ hc : C, (outM (off hc) (h hc)).view.WordExact}
    {O : CellTallies nD τ sig (HIx 1)} {W : Waits sig (HIx 1)} {β : Type} {k : Prog (TpuEff nD τ sig (Elt F) Λ₀ (thr d i).2) β} {Q : β → sProp 𝕄} :
    (iprop(OutSt d i a sem x b t ∗ (oL d i ↦[rangeSet i 0 n]{fullShare} G x) ∗ Owed d i O W ∗ Transfers.MayWaits (thr d i) (none : HIx 1) O) : sProp 𝕄)
      ⊢ iprop((iprop(Idle d i a ∗ semVal (thr d i, .dma sem) 0 ∗ (oL d i ↦[rangeSet i 0 m]{fullShare} G x) ∗ Owed d i O W) -∗ run d i k Q)
          -∗ run d i (if hc : C then (do
              Prog.lift (.waitDma2 sem a (outM (off hc) (h hc)) (hsrc hc) (hdst hc))
              k) else k) Q) := by
  iintro ⟨HS, HG, HO, HM⟩ HK
  by_cases hc : C
  · have ht : 0 < t := hC.mp hc
    have hm' : m = n + 1 := hm ht
    rw [dif_pos hc]
    unfold run
    rw [wp_bind]
    ihave HS := (Entails.of_eq (show OutSt d i a sem x b t = Storing d i a sem x n from by unfold OutSt; rw [if_pos ht, hn ht])) $$ HS
    iapply (store_wait d i) $$ [HS HO HM]
    · isplitl [HS]; · iexact HS
      isplitl [HO] <;> iassumption
    iintro ⟨HX, HA, HV, HO⟩
    iapply HK
    isplitl [HA]; · iexact HA
    isplitl [HV]; · iexact HV
    isplitl [HX HG]
    · rw [hm']
      iapply (grow d i x n)
      isplitl [HG] <;> iassumption
    · iexact HO
  · have ht : ¬ 0 < t := fun h => hc (hC.mpr h)
    rw [dif_neg hc]
    unfold run
    ihave HS := (Entails.of_eq (show OutSt d i a sem x b t = iprop(Idle d i a ∗ semVal (thr d i, .dma sem) 0) from by unfold OutSt; rw [if_neg ht])) $$ HS
    icases HS with ⟨HA, HV⟩
    iapply HK
    isplitl [HA]; · iexact HA
    isplitl [HV]; · iexact HV
    isplitl [HG]
    · rw [← hb ht]; iexact HG
    · iexact HO

/-- The fetch of the next trip's chunk, where there is one. -/
theorem start_if {a : Memref sig .scVector .vmem S49152 .f32} {sem : DmaSem sig} {q : PosShare TreeShare} {x : S4x2x6291456.Idx → F .f32} {t b : Nat}
    {C : Prop} [Decidable C] (hC : C ↔ t < 15)
    {off : C → Fin 3 → Nat} {h : ∀ (hc : C) (a : Fin 3), off hc a + S1x1x49152.size a ≤ S4x2x6291456.size a}
    (ho : ∀ hc, off hc = inAt i (2 * t + 2 + b))
    {hsrc : ∀ hc : C, (inM (off hc) (h hc)).view.WordExact} {hdst : C → a.view.WordExact}
    {hsem : C → (DmaTarget.here a : DmaTarget nD τ sig (thr d i).2 .vmem S49152 .f32).Typed .hbm (.dma sem)}
    {β : Type} {k : Prog (TpuEff nD τ sig (Elt F) Λ₀ (thr d i).2) β} {Q : β → sProp 𝕄} :
    (iprop((xL d i ↦{q} x) ∗ Idle d i a ∗ semVal (thr d i, .dma sem) 0) : sProp 𝕄)
      ⊢ iprop((InSt d i a sem q x b (t + 1) -∗ run d i k Q)
          -∗ run d i (if hc : C then (do
              Prog.lift (.enqueueDma (inM (off hc) (h hc)) (.here a) (.dma sem) (hsrc hc) (hdst hc) (hsem hc))
              k) else k) Q) := by
  iintro H HK
  by_cases hc : C
  · have ht : t + 1 < 16 := by have := hC.mp hc; omega
    rw [dif_pos hc]
    unfold run
    rw [wp_bind]
    iapply (fetch_start d i (g := 2 * (t + 1) + b) (ho hc)) $$ H
    iintro HF
    iapply HK
    unfold InSt
    rw [if_pos ht]
    iexact HF
  · have ht : ¬ t + 1 < 16 := fun h => hc (hC.mpr (by omega))
    rw [dif_neg hc]
    unfold run
    iapply HK
    unfold InSt
    rw [if_neg ht]
    iexact H

end Cert.KernelIdeal.Pool
-- ==== Proof.Outer.lean ====
/-
  A trip of the outer loop: two chunks waited for, averaged and written back, the fetches of the next two started.
-/
module

public import proofs.«01_k».proof.Proof.Pieces

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable (arg4 : Memref sig .scVector .vmem S49152 .f32) (harg4 : arg4.IsWhole) (arg5 : Memref sig .scVector .vmem S49152 .f32) (harg5 : arg5.IsWhole)
variable (arg6 : Memref sig .scVector .vmem S12288 .f32) (harg6 : arg6.IsWhole) (arg7 : Memref sig .scVector .vmem S12288 .f32) (harg7 : arg7.IsWhole)
variable (arg8 arg9 arg10 arg11 : DmaSems sig S_)
variable (hx : xM.IsWhole) (ho : oM.IsWhole)

/-- The statements up to the first write-back: the first chunk in, its means out. -/
theorem part1 (q : PosShare TreeShare) (x : S4x2x6291456.Idx → F .f32) (fo : S4x2x1572864.Idx → F .f32) (t : Fin k0_t1_loop.trips) (v56 c0 c1 : BitVec 32)
    {O : CellTallies nD τ sig (HIx 1)} {W : Waits sig (HIx 1)} {Q : (Σ' (_ : BitVec 32) (_ : BitVec 32), BitVec 32) → sProp 𝕄} :
    (iprop(InSt d i arg4 arg8.sem q x 0 t.val ∗ OutSt d i arg6 arg10.sem x 0 t.val
        ∗ (oL d i ↦[rangeSet i 0 (2 * t.val - 2)]{fullShare} G x) ∗ (oL d i ↦[rangeSet i (2 * t.val) 32]{fullShare} fo)
        ∗ Owed d i O W ∗ Transfers.MayWaits (thr d i) (none : HIx 1) O) : sProp 𝕄)
      ⊢ iprop((∀ r, iprop((xL d i ↦{q} x) ∗ Idle d i arg4 ∗ semVal (thr d i, .dma arg8.sem) 0 ∗ Storing d i arg6 arg10.sem x (2 * t.val)
          ∗ (oL d i ↦[rangeSet i 0 (2 * t.val - 1)]{fullShare} G x) ∗ (oL d i ↦[rangeSet i (2 * t.val + 1) 32]{fullShare} fo)
          ∗ Owed d i O W) -∗ Q r)
        -∗ run d i (k0_part1 i xM hx oM ho arg4 harg4 arg5 harg5 arg6 harg6 arg7 harg7 arg8 arg9 arg10 arg11 v56 k0_pay11 c0 c1 t) Q) := by
  have ht : t.val < 16 := lt_of_lt_of_eq t.isLt trips1
  iintro ⟨HI, HS, HG, HT, HO, #HM⟩ HK
  rw [k0_part1_eq_skeleton]
  unfold k0_part1_skel
  dsimp only
  unfold run
  ihave HI := (Entails.of_eq (show InSt d i arg4 arg8.sem q x 0 t.val = Fetching d i arg4 arg8.sem q x (2 * t.val) from by unfold InSt; rw [if_pos ht]; rfl)) $$ HI
  rw [wp_bind]
  iapply (fetch_wait d i) $$ [HI HO]
  · isplitl [HI]; · iexact HI
    isplitl [HO]; · iexact HO
    iexact HM
  iintro ⟨HX, HA, HV, HO⟩
  iapply (wait_if d i (a := arg6) (sem := arg10.sem) (x := x) (t := t.val) (b := 0) (cond1_iff t) (n := 2 * t.val - 2) (m := 2 * t.val - 1) (by omega) (by omega) (by omega)) $$ [HS HG HO]
  · isplitl [HS]; · iexact HS
    isplitl [HG]; · iexact HG
    isplitl [HO]; · iexact HO
    iexact HM
  iintro ⟨HB, HW, HG, HO⟩
  unfold run
  rw [wp_bind]
  iapply (fill d i xM hx oM ho arg4 harg4 arg5 harg5 arg6 harg6 arg7 harg7 arg8 arg9 arg10 arg11) $$ [HA HB]
  · isplitl [HA] <;> iassumption
  iintro ⟨HA, HB⟩
  rw [wp_bind]
  ihave ⟨HC, HT⟩ := (shrink d i fo (g := 2 * t.val) (n := 32) (by omega)) $$ HT
  iapply (store_start d i harg6 (g := 2 * t.val) (off5_eq i t 0)) $$ [HC HB HW]
  · isplitl [HC]; · iexact HC
    isplitl [HB] <;> iassumption
  iintro HS
  rw [Prog.pure_eq_ret, wp_ret]
  imodintro
  iapply HK
  isplitl [HX]; · iexact HX
  isplitl [HA]; · iapply (Holds.idle d i) $$ HA
  isplitl [HV]; · iexact HV
  isplitl [HS]; · iexact HS
  isplitl [HG]; · iexact HG
  isplitl [HT]; · iexact HT
  iexact HO

/-- The statements up to the second write-back: the first buffer refilled, the second chunk in and averaged. -/
theorem part2 (q0 q1 : PosShare TreeShare) (x : S4x2x6291456.Idx → F .f32) (t : Fin k0_t1_loop.trips) (v56 a12 v120 c2 : BitVec 32)
    {O : CellTallies nD τ sig (HIx 1)} {W : Waits sig (HIx 1)} {Q : BitVec 32 → sProp 𝕄} :
    (iprop(((xL d i ↦{q0} x) ∗ Idle d i arg4 ∗ semVal (thr d i, .dma arg8.sem) 0)
        ∗ InSt d i arg5 arg9.sem q1 x 1 t.val ∗ OutSt d i arg7 arg11.sem x 1 t.val
        ∗ (oL d i ↦[rangeSet i 0 (2 * t.val - 1)]{fullShare} G x)
        ∗ Owed d i O W ∗ Transfers.MayWaits (thr d i) (none : HIx 1) O) : sProp 𝕄)
      ⊢ iprop((∀ r, iprop(InSt d i arg4 arg8.sem q0 x 0 (t.val + 1)
          ∗ (xL d i ↦{q1} x) ∗ Idle d i arg5 ∗ semVal (thr d i, .dma arg9.sem) 0
          ∗ Holds d i arg7 (avgs (chunk x i (2 * t.val + 1))) ∗ semVal (thr d i, .dma arg11.sem) 0
          ∗ (oL d i ↦[rangeSet i 0 (2 * t.val)]{fullShare} G x)
          ∗ Owed d i O W) -∗ Q r)
        -∗ run d i (k0_part2 i xM hx oM ho arg4 harg4 arg5 harg5 arg6 harg6 arg7 harg7 arg8 arg9 arg10 arg11 v56 k0_pay11 t a12 v120 c2) Q) := by
  have ht : t.val < 16 := lt_of_lt_of_eq t.isLt trips1
  iintro ⟨H0, HI, HS, HG, HO, #HM⟩ HK
  rw [k0_part2_eq_skeleton]
  unfold k0_part2_skel
  dsimp only
  unfold run
  ihave HI := (Entails.of_eq (show InSt d i arg5 arg9.sem q1 x 1 t.val = Fetching d i arg5 arg9.sem q1 x (2 * t.val + 1) from by unfold InSt; rw [if_pos ht])) $$ HI
  iapply (start_if d i (cond2_iff t) (b := 0) (off6_eq i t)) $$ H0
  iintro H0
  unfold run
  rw [wp_bind]
  iapply (fetch_wait d i) $$ [HI HO]
  · isplitl [HI]; · iexact HI
    isplitl [HO]; · iexact HO
    iexact HM
  iintro ⟨HX, HA, HV, HO⟩
  iapply (wait_if d i (a := arg7) (sem := arg11.sem) (x := x) (t := t.val) (b := 1) (cond3_iff t) (n := 2 * t.val - 1) (m := 2 * t.val) (by omega) (by omega) (by omega)) $$ [HS HG HO]
  · isplitl [HS]; · iexact HS
    isplitl [HG]; · iexact HG
    isplitl [HO]; · iexact HO
    iexact HM
  iintro ⟨HB, HW, HG, HO⟩
  unfold run
  rw [wp_bind, t3_body_eq i xM hx oM ho arg4 harg4 arg5 harg5 arg6 harg6 arg7 harg7 arg8 arg9 arg10 arg11 v56 k0_pay11 a12 v120 c2 0#32 1#32 t]
  iapply (fill d i xM hx oM ho arg5 harg5 arg4 harg4 arg7 harg7 arg6 harg6 arg8 arg9 arg10 arg11) $$ [HA HB]
  · isplitl [HA] <;> iassumption
  iintro ⟨HA, HB⟩
  rw [Prog.pure_eq_ret, wp_ret]
  imodintro
  iapply HK
  isplitl [H0]; · iexact H0
  isplitl [HX]; · iexact HX
  isplitl [HA]; · iapply (Holds.idle d i) $$ HA
  isplitl [HV]; · iexact HV
  isplitl [HB]; · iexact HB
  isplitl [HW]; · iexact HW
  isplitl [HG]; · iexact HG
  iexact HO

/-- What holds before trip `n` of the outer loop. -/
def Inv (q0 q1 : PosShare TreeShare) (x : S4x2x6291456.Idx → F .f32) (fo : S4x2x1572864.Idx → F .f32)
    (O : CellTallies nD τ sig (HIx 1)) (W : Waits sig (HIx 1)) (n : Nat) : sProp 𝕄 :=
  iprop(InSt d i arg4 arg8.sem q0 x 0 n ∗ InSt d i arg5 arg9.sem q1 x 1 n
    ∗ OutSt d i arg6 arg10.sem x 0 n ∗ OutSt d i arg7 arg11.sem x 1 n
    ∗ (oL d i ↦[rangeSet i 0 (2 * n - 2)]{fullShare} G x) ∗ (oL d i ↦[rangeSet i (2 * n) 32]{fullShare} fo)
    ∗ Owed d i O W)

/-- One trip of the outer loop keeps its invariant. -/
theorem outer_trip (q0 q1 : PosShare TreeShare) (x : S4x2x6291456.Idx → F .f32) (fo : S4x2x1572864.Idx → F .f32)
    (O : CellTallies nD τ sig (HIx 1)) (W : Waits sig (HIx 1)) (t : Fin k0_t1_loop.trips) (u : Unit)
    (v18 v28 c2 v29 v34 v36 v38 v56 : BitVec 32) :
    (iprop(Inv d i arg4 arg5 arg6 arg7 arg8 arg9 arg10 arg11 q0 q1 x fo O W t.val ∗ Transfers.MayWaits (thr d i) (none : HIx 1) O) : sProp 𝕄)
      ⊢ run d i (k0_t1_body i xM hx oM ho arg4 harg4 arg5 harg5 arg6 harg6 arg7 harg7 arg8 arg9 arg10 arg11 v18 v28 c2 v29 v34 v36 v38 v56 t u)
          (fun _ => Inv d i arg4 arg5 arg6 arg7 arg8 arg9 arg10 arg11 q0 q1 x fo O W (t.val + 1)) := by
  have ht : t.val < 16 := lt_of_lt_of_eq t.isLt trips1
  unfold Inv
  iintro ⟨⟨HI0, HI1, HS0, HS1, HG, HT, HO⟩, #HM⟩
  unfold k0_t1_body
  dsimp only
  unfold run
  rw [wp_bind]
  iapply (part1 d i arg4 harg4 arg5 harg5 arg6 harg6 arg7 harg7 arg8 arg9 arg10 arg11 hx ho q0 x fo t v56 0#32 1#32) $$ [HI0 HS0 HG HT HO]
  · isplitl [HI0]; · iexact HI0
    isplitl [HS0]; · iexact HS0
    isplitl [HG]; · iexact HG
    isplitl [HT]; · iexact HT
    isplitl [HO]; · iexact HO
    iexact HM
  iintro %r ⟨HX0, HA0, HV0, HS0, HG, HT, HO⟩
  dsimp only
  rw [wp_bind]
  iapply (part2 d i arg4 harg4 arg5 harg5 arg6 harg6 arg7 harg7 arg8 arg9 arg10 arg11 hx ho q0 q1 x t v56) $$ [HX0 HA0 HV0 HI1 HS1 HG HO]
  · isplitl [HX0 HA0 HV0]
    · isplitl [HX0]; · iexact HX0
      isplitl [HA0] <;> iassumption
    isplitl [HI1]; · iexact HI1
    isplitl [HS1]; · iexact HS1
    isplitl [HG]; · iexact HG
    isplitl [HO]; · iexact HO
    iexact HM
  iintro %r' ⟨HI0, HX1, HA1, HV1, HB1, HW1, HG, HO⟩
  ihave ⟨HC, HT⟩ := (shrink d i fo (g := 2 * t.val + 1) (n := 32) (by omega)) $$ HT
  rw [wp_bind]
  iapply (store_start d i harg7 (g := 2 * t.val + 1) (off5_eq i t 1)) $$ [HC HB1 HW1]
  · isplitl [HC]; · iexact HC
    isplitl [HB1] <;> iassumption
  iintro HS1
  iapply (start_if d i (cond4_iff t) (b := 1) (off9_eq i t)) $$ [HX1 HA1 HV1]
  · isplitl [HX1]; · iexact HX1
    isplitl [HA1] <;> iassumption
  iintro HI1
  unfold run
  rw [Prog.pure_eq_ret, wp_ret]
  imodintro
  isplitl [HI0]; · iexact HI0
  isplitl [HI1]; · iexact HI1
  isplitl [HS0]
  · iapply (Entails.of_eq (show Storing d i arg6 arg10.sem x (2 * t.val) = OutSt d i arg6 arg10.sem x 0 (t.val + 1) from by
      unfold OutSt; rw [if_pos (Nat.succ_pos _)]; rfl)) $$ HS0
  isplitl [HS1]
  · iapply (Entails.of_eq (show Storing d i arg7 arg11.sem x (2 * t.val + 1) = OutSt d i arg7 arg11.sem x 1 (t.val + 1) from by
      unfold OutSt; rw [if_pos (Nat.succ_pos _)]; rfl)) $$ HS1
  isplitl [HG]
  · iexact HG
  isplitl [HT]
  · iexact HT
  iexact HO

end Cert.KernelIdeal.Pool
-- ==== Proof.Tile.lean ====
/-
  A tile's whole program: the first two fetches, the outer loop, the waits for the last two write-backs.
-/
module

public import proofs.«01_k».proof.Proof.Outer

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable (arg4 : Memref sig .scVector .vmem S49152 .f32) (harg4 : arg4.IsWhole) (arg5 : Memref sig .scVector .vmem S49152 .f32) (harg5 : arg5.IsWhole)
variable (arg6 : Memref sig .scVector .vmem S12288 .f32) (harg6 : arg6.IsWhole) (arg7 : Memref sig .scVector .vmem S12288 .f32) (harg7 : arg7.IsWhole)
variable (arg8 arg9 arg10 arg11 : DmaSems sig S_)
variable (hx : xM.IsWhole) (ho : oM.IsWhole)

/-- An input buffer idle, with its share of the input and its semaphore. -/
def InIdle (a : Memref sig .scVector .vmem S49152 .f32) (sem : DmaSem sig) (q : PosShare TreeShare) (x : S4x2x6291456.Idx → F .f32) : sProp 𝕄 :=
  iprop((xL d i ↦{q} x) ∗ Idle d i a ∗ semVal (thr d i, .dma sem) 0)

/-- An output buffer idle, with its semaphore. -/
def OutIdle (a : Memref sig .scVector .vmem S12288 .f32) (sem : DmaSem sig) : sProp 𝕄 :=
  iprop(Idle d i a ∗ semVal (thr d i, .dma sem) 0)

/-- The first statements compute scalars only. -/
theorem part3_pure (a2 : Memref sig .scVector .hbm S4x2x6291456 .f32) (h2 : a2.IsWhole) (a3 : Memref sig .scVector .hbm S4x2x1572864 .f32) (h3 : a3.IsWhole) :
    ∃ r, k0_part3 (F := F) i a2 h2 a3 h3 arg4 harg4 arg5 harg5 arg6 harg6 arg7 harg7 arg8 arg9 arg10 arg11 = Prog.ret r := by
  rw [k0_part3_eq_skeleton]
  exact ⟨_, rfl⟩

/-- The two fetches and the outer loop: the output written but for the last two chunks, whose write-backs are in flight. -/
theorem part4 (q0 q1 : PosShare TreeShare) (x : S4x2x6291456.Idx → F .f32) (fo : S4x2x1572864.Idx → F .f32)
    {O : CellTallies nD τ sig (HIx 1)} {W : Waits sig (HIx 1)} (v18 v28 c2 v29 v34 v36 v38 : BitVec 32)
    {Q : (Σ' (_ : BitVec 32) (_ : BitVec 32) (_ : BitVec 32) (_ : BitVec 32), BitVec 1) → sProp 𝕄} :
    (iprop(InIdle d i arg4 arg8.sem q0 x ∗ InIdle d i arg5 arg9.sem q1 x ∗ OutIdle d i arg6 arg10.sem ∗ OutIdle d i arg7 arg11.sem
        ∗ (oL d i ↦[rangeSet i 0 32]{fullShare} fo) ∗ Owed d i O W ∗ Transfers.MayWaits (thr d i) (none : HIx 1) O) : sProp 𝕄)
      ⊢ iprop((∀ r, iprop(InIdle d i arg4 arg8.sem q0 x ∗ InIdle d i arg5 arg9.sem q1 x
          ∗ Storing d i arg6 arg10.sem x 30 ∗ Storing d i arg7 arg11.sem x 31
          ∗ (oL d i ↦[rangeSet i 0 30]{fullShare} G x) ∗ Owed d i O W) -∗ Q r)
        -∗ run d i (k0_part4 i xM hx oM ho arg4 harg4 arg5 harg5 arg6 harg6 arg7 harg7 arg8 arg9 arg10 arg11 v18 v28 c2 v29 v34 v36 v38) Q) := by
  unfold InIdle OutIdle
  iintro ⟨H0, H1, H2, H3, HT, HO, #HM⟩ HK
  rw [k0_part4_eq_skeleton]
  unfold k0_part4_skel
  dsimp only
  unfold run
  rw [wp_bind]
  iapply (fetch_start d i (g := 0) (off1_eq i 0)) $$ H0
  iintro H0
  rw [wp_bind]
  iapply (fetch_start d i (g := 1) (off1_eq i 1)) $$ H1
  iintro H1
  iapply (Scf.wp_for_bind frame (wpE (defs₀ (F := F)) 𝒱₀ (thr d i) none) Set.univ _ _ _ k0_t1_ok _ _
    (fun n _ => iprop(Inv d i arg4 arg5 arg6 arg7 arg8 arg9 arg10 arg11 q0 q1 x fo O W n ∗ Transfers.MayWaits (thr d i) (none : HIx 1) O)) ?hb) $$ [H0 H1 H2 H3 HT HO]
  case hb =>
    intro t u
    iintro ⟨HI, #HM⟩
    iapply (wp_frame_r frame (wpE (defs₀ (F := F)) 𝒱₀ (thr d i) none) Set.univ)
    isplitl [HI]
    · iapply (outer_trip d i arg4 harg4 arg5 harg5 arg6 harg6 arg7 harg7 arg8 arg9 arg10 arg11 hx ho q0 q1 x fo O W t u)
      isplitl [HI]; · iexact HI
      iexact HM
    · iexact HM
  · isplitl [H0 H1 H2 H3 HT HO]
    · unfold Inv
      isplitl [H0]
      · iapply (Entails.of_eq (show Fetching d i arg4 arg8.sem q0 x 0 = InSt d i arg4 arg8.sem q0 x 0 0 from by
          unfold InSt; rw [if_pos (by decide)])) $$ H0
      isplitl [H1]
      · iapply (Entails.of_eq (show Fetching d i arg5 arg9.sem q1 x 1 = InSt d i arg5 arg9.sem q1 x 1 0 from by
          unfold InSt; rw [if_pos (by decide)])) $$ H1
      isplitl [H2]
      · iapply (Entails.of_eq (show iprop(Idle d i arg6 ∗ semVal (thr d i, .dma arg10.sem) 0) = OutSt d i arg6 arg10.sem x 0 0 from by
          unfold OutSt; rw [if_neg (by decide)])) $$ H2
      isplitl [H3]
      · iapply (Entails.of_eq (show iprop(Idle d i arg7 ∗ semVal (thr d i, .dma arg11.sem) 0) = OutSt d i arg7 arg11.sem x 1 0 from by
          unfold OutSt; rw [if_neg (by decide)])) $$ H3
      isplitr
      · rw [show 2 * 0 - 2 = 0 from rfl, rangeSet_empty, pointsTo_empty]
        iempintro
      isplitl [HT]; · iexact HT
      iexact HO
    · iexact HM
  iintro %u ⟨HI, -⟩
  ihave HI := (Entails.of_eq (show Inv d i arg4 arg5 arg6 arg7 arg8 arg9 arg10 arg11 q0 q1 x fo O W k0_t1_loop.trips
    = iprop((( xL d i ↦{q0} x) ∗ Idle d i arg4 ∗ semVal (thr d i, .dma arg8.sem) 0) ∗ ((xL d i ↦{q1} x) ∗ Idle d i arg5 ∗ semVal (thr d i, .dma arg9.sem) 0)
      ∗ Storing d i arg6 arg10.sem x 30 ∗ Storing d i arg7 arg11.sem x 31
      ∗ (oL d i ↦[rangeSet i 0 30]{fullShare} G x) ∗ (oL d i ↦[rangeSet i 32 32]{fullShare} fo) ∗ Owed d i O W) from by
        rw [trips1]; unfold Inv InSt OutSt; rw [if_neg (by decide), if_neg (by decide), if_pos (by decide), if_pos (by decide)])) $$ HI
  icases HI with ⟨H0, H1, H2, H3, HG, -, HO⟩
  rw [Prog.pure_eq_ret, wp_ret]
  imodintro
  iapply HK
  isplitl [H0]; · iexact H0
  isplitl [H1]; · iexact H1
  isplitl [H2]; · iexact H2
  isplitl [H3]; · iexact H3
  isplitl [HG]; · iexact HG
  iexact HO

/-- The tile's program writes its whole part of the output. -/
theorem tile_run (q0 q1 : PosShare TreeShare) (x : S4x2x6291456.Idx → F .f32) (fo : S4x2x1572864.Idx → F .f32)
    {O : CellTallies nD τ sig (HIx 1)} {W : Waits sig (HIx 1)} {Q : PUnit → sProp 𝕄} :
    (iprop(InIdle d i arg4 arg8.sem q0 x ∗ InIdle d i arg5 arg9.sem q1 x ∗ OutIdle d i arg6 arg10.sem ∗ OutIdle d i arg7 arg11.sem
        ∗ (oL d i ↦[rangeSet i 0 32]{fullShare} fo) ∗ Owed d i O W ∗ Transfers.MayWaits (thr d i) (none : HIx 1) O) : sProp 𝕄)
      ⊢ iprop((iprop(InIdle d i arg4 arg8.sem q0 x ∗ InIdle d i arg5 arg9.sem q1 x ∗ OutIdle d i arg6 arg10.sem ∗ OutIdle d i arg7 arg11.sem
          ∗ (oL d i ↦[rangeSet i 0 32]{fullShare} G x) ∗ Owed d i O W) -∗ Q ⟨⟩)
        -∗ run d i (cc0__sc_body i xM hx oM ho arg4 harg4 arg5 harg5 arg6 harg6 arg7 harg7 arg8 arg9 arg10 arg11) Q) := by
  iintro ⟨H0, H1, H2, H3, HT, HO, #HM⟩ HK
  rw [cc0__sc_body_eq_skeleton]
  unfold cc0__sc_body_skel
  rw [k0_part5_eq_skeleton]
  unfold k0_part5_skel
  dsimp only
  unfold run
  obtain ⟨r, hr⟩ := part3_pure (F := F) i arg4 harg4 arg5 harg5 arg6 harg6 arg7 harg7 arg8 arg9 arg10 arg11 xM hx oM ho
  rw [wp_bind, wp_bind, hr, wp_ret]
  imodintro
  dsimp only
  rw [wp_bind]
  iapply (part4 d i arg4 harg4 arg5 harg5 arg6 harg6 arg7 harg7 arg8 arg9 arg10 arg11 hx ho q0 q1 x fo) $$ [H0 H1 H2 H3 HT HO]
  · isplitl [H0]; · iexact H0
    isplitl [H1]; · iexact H1
    isplitl [H2]; · iexact H2
    isplitl [H3]; · iexact H3
    isplitl [HT]; · iexact HT
    isplitl [HO]; · iexact HO
    iexact HM
  iintro %r' ⟨H0, H1, H2, H3, HG, HO⟩
  rw [wp_bind]
  iapply (store_wait d i) $$ [H2 HO]
  · isplitl [H2]; · iexact H2
    isplitl [HO]; · iexact HO
    iexact HM
  iintro ⟨HC, HA2, HV2, HO⟩
  ihave HG := (grow d i x 30) $$ [HG HC]
  · isplitl [HG] <;> iassumption
  rw [wp_bind]
  iapply (store_wait d i) $$ [H3 HO]
  · isplitl [H3]; · iexact H3
    isplitl [HO]; · iexact HO
    iexact HM
  iintro ⟨HC, HA3, HV3, HO⟩
  ihave HG := (grow d i x 31) $$ [HG HC]
  · isplitl [HG] <;> iassumption
  rw [Prog.pure_eq_ret, wp_ret]
  imodintro
  rw [wp_ret]
  imodintro
  iapply HK
  unfold OutIdle
  isplitl [H0]; · iexact H0
  isplitl [H1]; · iexact H1
  isplitl [HA2 HV2]
  · isplitl [HA2] <;> iassumption
  isplitl [HA3 HV3]
  · isplitl [HA3] <;> iassumption
  isplitl [HG]; · iexact HG
  iexact HO

end Cert.KernelIdeal.Pool
-- ==== Proof.Task.lean ====
/-
  One vector subcore's task as the launch states it: its scratch buffers and its semaphores are among the subcore's own,
  and from its two shares of the input and its block of the output the tile's run gives back the means.
-/
module

public import proofs.«01_k».proof.Proof.Tile

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The layout of the features that the host hands the kernel. -/
def laid (a : S4x786432x16.Idx → F .f32) : S4x2x6291456.Idx → F .f32 :=
  shapeCast S4x2x6291456
    (transpose S4x2x6144x8x128 [0, 3, 1, 4, 2] (shapeCast S4x6144x128x2x8 a shapeCasts_S4x786432x16_S4x6144x128x2x8)
      transposes_S4x6144x128x2x8_S4x2x6144x8x128_0_3_1_4_2)
    shapeCasts_S4x2x6144x8x128_S4x2x6291456

/-- The array the host makes of the layout the kernel leaves. -/
def unlaid (o : S4x2x1572864.Idx → F .f32) : S4x196608x16.Idx → F .f32 :=
  shapeCast S4x196608x16
    (transpose S4x1536x128x2x8 [0, 2, 4, 1, 3] (shapeCast S4x2x1536x8x128 o shapeCasts_S4x2x1572864_S4x2x1536x8x128)
      transposes_S4x2x1536x8x128_S4x1536x128x2x8_0_2_4_1_3)
    shapeCasts_S4x1536x128x2x8_S4x196608x16

/-- The coordinates of the tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The share of the input that buffer `b` of tile `s` of core `c` reads through. -/
def shr (c : Fin 2) (s : Fin 16) (b : Fin 2) : PosShare TreeShare :=
  Transfers.dealOf (Transfers.dealOf (Transfers.dealOf fullShare Finset.univ c) Finset.univ s) Finset.univ b

variable (d : Dev nD) (i : grid0.Coords)

/-- A semaphore cell of the tile's. -/
abbrev cell (a : DmaSems sig S_) : GSem nD τ sig := (thr d i, .dma a.sem)

omit [FloatOps F] in
theorem cell_own {a : DmaSems sig S_} (h : (SemLoc.dma a.sem : SemLoc sig).isScoped .scVector = true) : cell d i a ∈ ownCells (thr d i) :=
  mem_ownCells.mpr ⟨rfl, h⟩

omit [FloatOps F] in
theorem cell_ne {a b : DmaSems sig S_} (h : a.sem ≠ b.sem) : cell d i a ≠ cell d i b := by
  intro e
  exact h (SemLoc.dma.inj (Prod.mk.inj e).2)

omit [FloatOps F] in
/-- The four semaphores are among the subcore's own. -/
theorem ownSems0_V :
    (ownSems0 (thr d i) : sProp 𝕄)
      = iprop(semVal (cell d i cc0_scratch4) 0 ∗ semVal (cell d i cc0_scratch5) 0 ∗ semVal (cell d i cc0_scratch6) 0 ∗ semVal (cell d i cc0_scratch7) 0
          ∗ bigSep (((((ownCells (thr d i)).erase (cell d i cc0_scratch4)).erase (cell d i cc0_scratch5)).erase (cell d i cc0_scratch6)).erase
              (cell d i cc0_scratch7)) fun g => semVal g 0) := by
  unfold SparseCore.Cfg.ownSems0
  rw [SparseCore.bigSep_erase' (cell_own d i (a := cc0_scratch4) (by decide)),
    SparseCore.bigSep_erase' (Finset.mem_erase.mpr ⟨cell_ne d i (by decide), cell_own d i (a := cc0_scratch5) (by decide)⟩),
    SparseCore.bigSep_erase' (Finset.mem_erase.mpr ⟨cell_ne d i (by decide), Finset.mem_erase.mpr ⟨cell_ne d i (by decide),
      cell_own d i (a := cc0_scratch6) (by decide)⟩⟩),
    SparseCore.bigSep_erase' (Finset.mem_erase.mpr ⟨cell_ne d i (by decide), Finset.mem_erase.mpr ⟨cell_ne d i (by decide),
      Finset.mem_erase.mpr ⟨cell_ne d i (by decide), cell_own d i (a := cc0_scratch7) (by decide)⟩⟩⟩)]

/-- A scratch buffer of the tile's. -/
abbrev sref (b : Ref sig .scVector) : DevRef τ sig := (Proc.scVector (cV i) (jV i)).devRef b

omit [FloatOps F] in
theorem sref_ne {a b : Ref sig .scVector} (h : a ≠ b) : sref i a ≠ sref i b := fun e => h (Proc.devRef_injective _ e)

omit [FloatOps F] in
/-- The four scratch buffers are among the subcore's own. -/
theorem ownBufs_V :
    (ownBufs (thr d i) : sProp 𝕄)
      = iprop(Idle d i (Memref.whole cc0_scratch0) ∗ Idle d i (Memref.whole cc0_scratch1) ∗ Idle d i (Memref.whole cc0_scratch2)
          ∗ Idle d i (Memref.whole cc0_scratch3)
          ∗ bigSep (((((ownRefs (τ := τ) (.scVector (cV i) (jV i))).erase (sref i cc0_scratch0)).erase (sref i cc0_scratch1)).erase
              (sref i cc0_scratch2)).erase (sref i cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := sref i cc0_scratch0) rfl)).trans ?_
  rw [SparseCore.bigSep_erase' (Finset.mem_erase.mpr ⟨sref_ne i (by decide),
      SparseCore.Cfg.mem_ownRefs_of_owner (p := Proc.scVector (cV i) (jV i)) (b := sref i cc0_scratch1) rfl⟩),
    SparseCore.bigSep_erase' (Finset.mem_erase.mpr ⟨sref_ne i (by decide), Finset.mem_erase.mpr ⟨sref_ne i (by decide),
      SparseCore.Cfg.mem_ownRefs_of_owner (p := Proc.scVector (cV i) (jV i)) (b := sref i cc0_scratch2) rfl⟩⟩),
    SparseCore.bigSep_erase' (Finset.mem_erase.mpr ⟨sref_ne i (by decide), Finset.mem_erase.mpr ⟨sref_ne i (by decide),
      Finset.mem_erase.mpr ⟨sref_ne i (by decide),
        SparseCore.Cfg.mem_ownRefs_of_owner (p := Proc.scVector (cV i) (jV i)) (b := sref i cc0_scratch3) rfl⟩⟩⟩)]
  rfl

/-- What a tile takes: its two shares of the input, and its block of the output at `f`. -/
def Task (c : Fin 2) (s : Fin 16) (x : S4x2x6291456.Idx → F .f32) (f : S4x2x1572864.Idx → F .f32) : sProp 𝕄 :=
  iprop((xL d (coordsV c s) ↦{shr c s 0} x) ∗ (xL d (coordsV c s) ↦{shr c s 1} x) ∗ oL d (coordsV c s) ↦[rangeSet (coordsV c s) 0 32]{fullShare} f)

instance task_storable (c : Fin 2) (s : Fin 16) (x : S4x2x6291456.Idx → F .f32) (f : S4x2x1572864.Idx → F .f32) :
    BI.Storable (upEmb : UEmb _ 𝕄) (Task d c s x f) := by
  unfold Task; infer_instance

/-- The task of one vector subcore: its block of the output becomes the means. -/
theorem tile_body (hF : (K (F := F)).Facts) (c : Fin 2) (s : Fin 16) (x : S4x2x6291456.Idx → F .f32) (f : S4x2x1572864.Idx → F .f32)
    (O : CellTallies nD τ sig (HIx 1)) (W : Waits sig (HIx 1)) (hO : ∀ g, O g none = 0) :
    iprop(levAts (K (F := F)).L (K (F := F)).lev ∗ emp ∗ Task d c s x f
        ∗ scopedBufs (thr d (coordsV c s)) ∗ scopedSems0 (thr d (coordsV c s)) ∗ owes (thr d (coordsV c s)) O W)
      ⊢ run (F := F) d (coordsV c s)
          (cc0__sc_body (coordsV c s) xM (Memref.isWhole_whole _) oM (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7)
          fun _ => iprop(Task d c s x (G x) ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownSems0_V, ownBufs_V]
  unfold Task
  iintro ⟨#Hlv, -, ⟨Hx0, Hx1, Ho⟩, ⟨Hb0, Hb1, Hb2, Hb3, Hbufs⟩, ⟨Hs0, Hs1, Hs2, Hs3, Hsems⟩, HO⟩
  ihave Hmw := ((K (F := F)).mayWaits_none (thr := thr d (coordsV c s)) hO) $$ Hlv
  iapply (tile_run d (coordsV c s) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 (Memref.isWhole_whole _) (Memref.isWhole_whole _)
    (shr c s 0) (shr c s 1) x f (O := O) (W := W)) $$ [Hx0 Hx1 Ho Hb0 Hb1 Hb2 Hb3 Hs0 Hs1 Hs2 Hs3 HO Hmw]
  · unfold InIdle OutIdle Owed
    isplitl [Hx0 Hb0 Hs0]
    · isplitl [Hx0]; · iexact Hx0
      isplitl [Hb0]; · iexact Hb0
      iexact Hs0
    isplitl [Hx1 Hb1 Hs1]
    · isplitl [Hx1]; · iexact Hx1
      isplitl [Hb1]; · iexact Hb1
      iexact Hs1
    isplitl [Hb2 Hs2]
    · isplitl [Hb2]; · iexact Hb2
      iexact Hs2
    isplitl [Hb3 Hs3]
    · isplitl [Hb3]; · iexact Hb3
      iexact Hs3
    isplitl [Ho]; · iexact Ho
    isplitl [HO]
    · iexists W; isplitr
      · ipureintro; exact fun p hp => Or.inl hp
      iexact HO
    iexact Hmw
  unfold InIdle OutIdle Owed
  iintro ⟨⟨Hx0, Hb0, Hs0⟩, ⟨Hx1, Hb1, Hs1⟩, ⟨Hb2, Hs2⟩, ⟨Hb3, Hs3⟩, Ho, HO⟩
  isplitl [Hx0 Hx1 Ho]
  · isplitl [Hx0]; · iexact Hx0
    isplitl [Hx1]; · iexact Hx1
    iexact Ho
  isplitl [Hb0 Hb1 Hb2 Hb3 Hbufs]
  · isplitl [Hb0]; · iexact Hb0
    isplitl [Hb1]; · iexact Hb1
    isplitl [Hb2]; · iexact Hb2
    isplitl [Hb3]; · iexact Hb3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Cert.KernelIdeal.Pool
-- ==== Proof.Launch.lean ====
/-
  The launch: what the call takes and brings back, dealt to the two cores and the sixteen tiles of each; each tile's
  obligation; the two arrays as the tiles' pieces.
-/
module

public import proofs.«01_k».proof.Proof.Task

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- A buffer of the host's, on device `d`. -/
abbrev tcL (d : Dev nD) (b : Ref sig .tc) : Loc nD τ sig := (SparseCore.T d).loc b

/-- The kernel's input and output as the call finds them. -/
abbrev xIn (d : Dev nD) : S4x2x6291456.Idx → F .f32 := laid (m (tcL d main_arg0))
abbrev oIn (d : Dev nD) : S4x2x1572864.Idx → F .f32 := m (tcL d main_v3)

/-- The task of tile `s` of core `c`, with the output at `f`. -/
abbrev Task' (d : Dev nD) (c : Fin ((K (F := F)).nCore 0)) (s : Fin ((K (F := F)).nSub 0)) (f : S4x2x1572864.Idx → F .f32) : sProp 𝕄 :=
  Task d (Fin.cast nCore_zero c) (Fin.cast nSub_zero s) (xIn m d) f

/-- The call takes, for each core, its sixteen tiles' tasks with the output as launched, and brings them back with the
    output at the means. -/
def P : (K (F := F)).Pay (nD := nD) (Val := Elt F) (Name := ℕ) (U := UU) where
  st := fun q d c => match q with | 0 => bigSep Finset.univ fun s : Fin ((K (F := F)).nSub 0) => Task' m d c s (oIn m d)
  dn := fun q d c => match q with | 0 => bigSep Finset.univ fun s : Fin ((K (F := F)).nSub 0) => Task' m d c s (G (xIn m d))
  go := fun q d c s => match q with | 0 => Task' m d c s (oIn m d)
  td := fun q d c s => match q with | 0 => Task' m d c s (G (xIn m d))
  x := fun _ _ => iprop(emp)

instance P_storable : (P (F := F) m).IsStorable where
  st q d c := match q with
    | 0 => (inferInstance : BI.Storable (upEmb : UEmb _ 𝕄) (bigSep Finset.univ fun s : Fin ((K (F := F)).nSub 0) => Task' m d c s (oIn m d)))
  dn q d c := match q with
    | 0 => (inferInstance : BI.Storable (upEmb : UEmb _ 𝕄) (bigSep Finset.univ fun s : Fin ((K (F := F)).nSub 0) => Task' m d c s (G (xIn m d))))
  go q d c s := match q with
    | 0 => (inferInstance : BI.Storable (upEmb : UEmb _ 𝕄) (Task' m d c s (oIn m d)))
  td q d c s := match q with
    | 0 => (inferInstance : BI.Storable (upEmb : UEmb _ 𝕄) (Task' m d c s (G (xIn m d))))

theorem defs₀_vector (c : Fin τ.nSC) (s : Fin τ.nSub) :
    defs₀ (F := F) (.scVector c s) 0 ()
      = SparseCore.onTile hcore0 hsub0 (fun c s => cc0__sc_body (coordsV c s) xM (Memref.isWhole_whole _) oM (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile does its task. -/
theorem tileObl (hF : (K (F := F)).Facts) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d hF (Fin.cast nCore_zero c) (Fin.cast nSub_zero s) (xIn m d) (oIn m d) O W hO).trans (wp_mono frame _ _ fun _ => obl_post)

/-- What a core takes is already its tiles' tasks. -/
theorem vecSplit : (K (F := F)).VecSplit' (P m) 0 := by
  intro d c
  show (bigSep Finset.univ fun s : Fin ((K (F := F)).nSub 0) => Task' m d c s (oIn m d)) ⊢ |={Set.univ}=> iprop(
      (bigSep Finset.univ fun s : Fin ((K (F := F)).nSub 0) => Task' m d c s (oIn m d))
      ∗ ((bigSep Finset.univ fun s : Fin ((K (F := F)).nSub 0) => Task' m d c s (G (xIn m d)))
          -∗ bigSep Finset.univ fun s : Fin ((K (F := F)).nSub 0) => Task' m d c s (G (xIn m d))))
  iintro H; imodintro
  isplitl [H]; · iexact H
  iintro H; iexact H

/-! ## The arrays as the tiles' pieces -/

omit [FloatOps F] in
theorem wid_coordsV (c : Fin 2) (s : Fin 16) : wid (coordsV c s) = 2 * s.val + c.val := rfl

/-- The block of the output of tile `s` of core `c`. -/
abbrev blk (c : Fin 2) (s : Fin 16) : Finset S4x2x1572864.Idx := rangeSet (coordsV c s) 0 32

omit [FloatOps F] in
/-- An element of the output is in one tile's block: the tile whose number its position gives. -/
theorem mem_blk {c : Fin 2} {s : Fin 16} {y : S4x2x1572864.Idx} :
    y ∈ blk c s ↔ 2 * s.val + c.val = 8 * (y 0).val + 4 * (y 1).val + (y 2).val / 393216 := by
  have h0 : (y 0).val < 4 := (y 0).isLt
  have h1 : (y 1).val < 2 := (y 1).isLt
  have h2 : (y 2).val < 1572864 := (y 2).isLt
  have hc := c.isLt
  have hs := s.isLt
  rw [mem_rangeSet, wid_coordsV]
  omega

/-- The same block, as a set of the output buffer's elements. -/
abbrev blkL (d : Dev nD) (c : Fin 2) (s : Fin 16) : Finset (Idx (tcL d main_v3)) := blk c s

/-- All the blocks of a core. -/
abbrev coreL (d : Dev nD) (c : Fin 2) : Finset (Idx (tcL d main_v3)) := Finset.univ.biUnion (blkL d c)

omit [FloatOps F] in
theorem blk_disjoint (d : Dev nD) (c : Fin 2) :
    ∀ s ∈ (Finset.univ : Finset (Fin 16)), ∀ s' ∈ (Finset.univ : Finset (Fin 16)), s ≠ s' → Disjoint (blkL d c s) (blkL d c s') := by
  intro s _ s' _ h
  rw [Finset.disjoint_left]
  intro y hy hy'
  have hy := mem_blk.mp hy
  have hy' := mem_blk.mp hy'
  exact h (Fin.ext (by omega))

omit [FloatOps F] in
theorem core_disjoint (d : Dev nD) :
    ∀ c ∈ (Finset.univ : Finset (Fin 2)), ∀ c' ∈ (Finset.univ : Finset (Fin 2)), c ≠ c' → Disjoint (coreL d c) (coreL d c') := by
  intro c _ c' _ h
  rw [Finset.disjoint_left]
  intro y hy hy'
  obtain ⟨s, -, hs⟩ := Finset.mem_biUnion.mp hy
  obtain ⟨s', -, hs'⟩ := Finset.mem_biUnion.mp hy'
  have hs := mem_blk.mp hs
  have hs' := mem_blk.mp hs'
  have hc := c.isLt
  have hc' := c'.isLt
  exact h (Fin.ext (by omega))

omit [FloatOps F] in
theorem core_cover (d : Dev nD) : (Finset.univ : Finset (Fin 2)).biUnion (coreL d) = Finset.univ := by
  refine Finset.eq_univ_iff_forall.mpr fun y => ?_
  have key : ∀ y : S4x2x1572864.Idx, ∃ (c : Fin 2) (s : Fin 16), y ∈ blk c s := by
    intro y
    have h0 : (y 0).val < 4 := (y 0).isLt
    have h1 : (y 1).val < 2 := (y 1).isLt
    have h2 : (y 2).val < 1572864 := (y 2).isLt
    refine ⟨⟨(8 * (y 0).val + 4 * (y 1).val + (y 2).val / 393216) % 2, by omega⟩,
      ⟨(8 * (y 0).val + 4 * (y 1).val + (y 2).val / 393216) / 2, by omega⟩, ?_⟩
    rw [mem_blk]
    show 2 * (_ / 2) + _ % 2 = _
    omega
  obtain ⟨c, s, h⟩ := key y
  exact Finset.mem_biUnion.mpr ⟨c, Finset.mem_univ _, Finset.mem_biUnion.mpr ⟨s, Finset.mem_univ _, h⟩⟩

omit [FloatOps F] in
/-- The output array is the tiles' blocks. -/
theorem out_pieces (d : Dev nD) (f : S4x2x1572864.Idx → F .f32) :
    (tcL d main_v3 ↦{fullShare} f : sProp 𝕄)
      = bigSep Finset.univ fun c : Fin 2 => bigSep Finset.univ fun s : Fin 16 => tcL d main_v3 ↦[blkL d c s]{fullShare} f := by
  have h1 (c : Fin 2) : (tcL d main_v3 ↦[coreL d c]{fullShare} f : sProp 𝕄)
      = bigSep Finset.univ fun s : Fin 16 => tcL d main_v3 ↦[blkL d c s]{fullShare} f :=
    pointsTo_biUnion (Finset.univ : Finset (Fin 16)) (blkL d c) (blk_disjoint d c)
  have h2 : (tcL d main_v3 ↦[Finset.univ.biUnion (coreL d)]{fullShare} f : sProp 𝕄)
      = bigSep Finset.univ fun c : Fin 2 => tcL d main_v3 ↦[coreL d c]{fullShare} f :=
    pointsTo_biUnion (Finset.univ : Finset (Fin 2)) (coreL d) (core_disjoint d)
  have h3 : (tcL d main_v3 ↦{fullShare} f : sProp 𝕄)
      = (tcL d main_v3 ↦[Finset.univ.biUnion (coreL d)]{fullShare} f : sProp 𝕄) := by rw [core_cover]
  exact h3.trans (h2.trans (bigSep_congr fun c _ => h1 c))

omit [FloatOps F] in
/-- The input array is shared out: two shares to every tile. -/
theorem in_pieces (d : Dev nD) (x : S4x2x6291456.Idx → F .f32) :
    (tcL d main_v2 ↦{fullShare} x : sProp 𝕄)
      = bigSep Finset.univ fun c : Fin 2 => bigSep Finset.univ fun s : Fin 16 =>
          iprop((tcL d main_v2 ↦{shr c s 0} x) ∗ tcL d main_v2 ↦{shr c s 1} x) := by
  refine (Transfers.pointsTo_deal (Finset.univ : Finset (Fin 2)) Finset.univ_nonempty fullShare).trans (bigSep_congr fun c _ => ?_)
  refine (Transfers.pointsTo_deal (Finset.univ : Finset (Fin 16)) Finset.univ_nonempty _).trans (bigSep_congr fun s _ => ?_)
  refine (Transfers.pointsTo_deal (Finset.univ : Finset (Fin 2)) Finset.univ_nonempty _).trans ?_
  rw [show (Finset.univ : Finset (Fin 2)) = {0, 1} by decide, SparseCore.bigSep_insert' (by decide), bigSep_singleton]
  rfl

/-- The two arrays are the thirty-two tasks. -/
theorem pieces (d : Dev nD) (x : S4x2x6291456.Idx → F .f32) (f : S4x2x1572864.Idx → F .f32) :
    (iprop((tcL d main_v2 ↦{fullShare} x) ∗ tcL d main_v3 ↦{fullShare} f) : sProp 𝕄)
      = bigSep Finset.univ fun c : Fin 2 => bigSep Finset.univ fun s : Fin 16 => Task d c s x f := by
  rw [in_pieces, out_pieces, ← bigSep_sep']
  refine bigSep_congr fun c _ => ?_
  rw [← bigSep_sep']
  refine bigSep_congr fun s _ => ?_
  unfold Task
  exact Idealize.SL.BI.sep_assoc.antisymm Idealize.SL.BI.sep_assoc'

end Cert.KernelIdeal.Pool
-- ==== Proof.Main.lean ====
/-
  @main: the host lays the features out, the call pools them, the host lays the result out; and the program's run.
-/
module

public import proofs.«01_k».proof.Proof.Launch

@[expose] public section

noncomputable section

namespace Cert.KernelIdeal.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- The handshakes' rounds at their start; the counters empty. -/
def u₀ : UU := (initOf (K (F := F)).hsCells (K (F := F)).hsToks, 1)

omit [FloatOps F] in
theorem emps {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The host's buffers and operations -/

/-- A buffer of the host's. -/
abbrev tb (b : Ref sig .tc) : DevRef τ sig := Proc.devRef .tc b

/-- The buffers the call does not touch. -/
abbrev S7 : Finset (DevRef τ sig) := {tb main_arg0, tb main_arg1, tb main_v0, tb main_v1, tb main_v4, tb main_v5, tb main_v6}

/-- All the buffers of the host's. -/
abbrev S9 : Finset (DevRef τ sig) := insert (tb main_v2) (insert (tb main_v3) S7)

abbrev op0 : HloOp τ sig (Elt F) :=
  StableHlo.reshape main_arg0 main_v0 (rfl : (.f32 : EltTy) = .f32) shapeCasts_S4x786432x16_S4x6144x128x2x8
abbrev op1 : HloOp τ sig (Elt F) :=
  StableHlo.unary main_v0 main_v1 ((transpose S4x2x6144x8x128 [0, 3, 1, 4, 2] · transposes_S4x6144x128x2x8_S4x2x6144x8x128_0_3_1_4_2) :
    (⟨S4x6144x128x2x8, .f32⟩ : BufTy).Contents (Elt F) → (⟨S4x2x6144x8x128, .f32⟩ : BufTy).Contents (Elt F))
abbrev op2 : HloOp τ sig (Elt F) :=
  StableHlo.reshape main_v1 main_v2 (rfl : (.f32 : EltTy) = .f32) shapeCasts_S4x2x6144x8x128_S4x2x6291456
abbrev op4 : HloOp τ sig (Elt F) :=
  StableHlo.reshape main_v3 main_v4 (rfl : (.f32 : EltTy) = .f32) shapeCasts_S4x2x1572864_S4x2x1536x8x128
abbrev op5 : HloOp τ sig (Elt F) :=
  StableHlo.unary main_v4 main_v5 ((transpose S4x1536x128x2x8 [0, 2, 4, 1, 3] · transposes_S4x2x1536x8x128_S4x1536x128x2x8_0_2_4_1_3) :
    (⟨S4x2x1536x8x128, .f32⟩ : BufTy).Contents (Elt F) → (⟨S4x1536x128x2x8, .f32⟩ : BufTy).Contents (Elt F))
abbrev op6 : HloOp τ sig (Elt F) :=
  StableHlo.reshape main_v5 main_v6 (rfl : (.f32 : EltTy) = .f32) shapeCasts_S4x1536x128x2x8_S4x196608x16

/-- The host's buffers at the launch, when the call starts, when it has ended, and at the end. -/
def V0 (d : Dev nD) : Valuation τ sig (Elt F) := fun b => m (d, b)
def V1 (d : Dev nD) : Valuation τ sig (Elt F) := (op2 (F := F)).result ((op1 (F := F)).result ((op0 (F := F)).result (V0 m d)))
def V2 (d : Dev nD) : Valuation τ sig (Elt F) := Function.update (V1 m d) (tb main_v3) (G (xIn m d))
def V3 (d : Dev nD) : Valuation τ sig (Elt F) := (op6 (F := F)).result ((op5 (F := F)).result ((op4 (F := F)).result (V2 m d)))

/-- The first operations write only their own three results. -/
theorem V1_ne (d : Dev nD) {b : Ref sig .tc} (h0 : b ≠ main_v0) (h1 : b ≠ main_v1) (h2 : b ≠ main_v2) : V1 m d (tb b) = m (tcL d b) := by
  unfold V1
  rw [StableHlo.reshape_result_ne (h := h2), StableHlo.unary_result_ne (h := h1), StableHlo.reshape_result_ne (h := h0)]
  rfl

/-- The last ones too. -/
theorem V3_ne (d : Dev nD) {b : Ref sig .tc} (h4 : b ≠ main_v4) (h5 : b ≠ main_v5) (h6 : b ≠ main_v6) : V3 m d (tb b) = V2 m d (tb b) := by
  unfold V3
  rw [StableHlo.reshape_result_ne (h := h6), StableHlo.unary_result_ne (h := h5), StableHlo.reshape_result_ne (h := h4)]

theorem V2_ne (d : Dev nD) {b : Ref sig .tc} (h : tb b ≠ tb main_v3) : V2 m d (tb b) = V1 m d (tb b) := Function.update_of_ne h _ _

/-- The call finds the features laid out. -/
theorem V1_x (d : Dev nD) : V1 m d (tb main_v2) = xIn m d := by
  unfold V1
  rw [StableHlo.reshape_result, StableHlo.unary_result, StableHlo.reshape_result]
  rfl

/-- The result is what the call left, laid out. -/
theorem V3_r (d : Dev nD) : V3 m d (tb main_v6) = unlaid (G (xIn m d)) := by
  unfold V3
  rw [StableHlo.reshape_result, StableHlo.unary_result, StableHlo.reshape_result]
  rw [show V2 m d (tb main_v3) = G (xIn m d) from Function.update_self _ _ _]
  rfl

theorem V3_arg0 (d : Dev nD) : V3 m d (tb main_arg0) = m (tcL d main_arg0) := by
  rw [V3_ne m d (by decide) (by decide) (by decide), V2_ne m d (by decide), V1_ne m d (by decide) (by decide) (by decide)]

theorem V3_arg1 (d : Dev nD) : V3 m d (tb main_arg1) = m (tcL d main_arg1) := by
  rw [V3_ne m d (by decide) (by decide) (by decide), V2_ne m d (by decide), V1_ne m d (by decide) (by decide) (by decide)]

omit [FloatOps F] in
/-- The call's two arrays apart from the other buffers. -/
theorem held_S9 (d : Dev nD) (W : Valuation τ sig (Elt F)) :
    (held (SparseCore.T d) S9 W : sProp 𝕄)
      = iprop((tcL d main_v2 ↦{fullShare} W (tb main_v2)) ∗ (tcL d main_v3 ↦{fullShare} W (tb main_v3)) ∗ held (SparseCore.T d) S7 W) := by
  unfold held
  rw [SparseCore.bigSep_insert' (by decide), SparseCore.bigSep_insert' (by decide)]

omit [FloatOps F] in
theorem unscopedBufs_eq (d : Dev nD) : (unscopedBufs d (fun b => m (tcL d b)) : sProp 𝕄) = held (SparseCore.T d) S9 (V0 m d) := by
  unfold unscopedBufs held
  rw [show (Finset.univ.filter fun b : Ref sig .tc => ¬ b.isScoped)
      = {main_v2, main_v3, main_arg0, main_arg1, main_v0, main_v1, main_v4, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- What @main leaves the claim: the arguments as launched, the result the means laid out. -/
abbrev FIN (d : Dev nD) : sProp 𝕄 :=
  iprop((tcL d main_arg0 ↦{fullShare} m (tcL d main_arg0)) ∗ (tcL d main_arg1 ↦{fullShare} m (tcL d main_arg1))
    ∗ tcL d main_v6 ↦{fullShare} unlaid (G (xIn m d)))

theorem held_fin (d : Dev nD) :
    (held (SparseCore.T d) S9 ((op6 (F := F)).result ((op5 (F := F)).result ((op4 (F := F)).result (V2 m d)))) : sProp 𝕄) ⊢ FIN m d := by
  show (held (SparseCore.T d) S9 (V3 m d) : sProp 𝕄) ⊢ FIN m d
  rw [held_S9]
  unfold held
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    V3_arg0, V3_arg1, V3_r]
  iintro ⟨-, -, H0, H1, -, -, -, -, H6⟩
  isplitl [H0]; · iexact H0
  isplitl [H1]; · iexact H1
  iexact H6

theorem st_eq (d : Dev nD) : (bigSep Finset.univ fun c : Fin ((K (F := F)).nCore 0) => (P m).st 0 d c)
    = iprop((tcL d main_v2 ↦{fullShare} xIn m d) ∗ tcL d main_v3 ↦{fullShare} oIn m d) :=
  (pieces d (xIn m d) (oIn m d)).symm

theorem dn_eq (d : Dev nD) : (bigSep Finset.univ fun c : Fin ((K (F := F)).nCore 0) => (P m).dn 0 d c)
    = iprop((tcL d main_v2 ↦{fullShare} xIn m d) ∗ tcL d main_v3 ↦{fullShare} G (xIn m d)) :=
  (pieces d (xIn m d) (G (xIn m d))).symm

/-- After the call, the buffers are those the call found but for the output. -/
theorem held_V2 (d : Dev nD) :
    (held (SparseCore.T d) S9 (V2 m d) : sProp 𝕄)
      = iprop((tcL d main_v2 ↦{fullShare} xIn m d) ∗ (tcL d main_v3 ↦{fullShare} G (xIn m d)) ∗ held (SparseCore.T d) S7 (V1 m d)) := by
  rw [held_S9, V2_ne m d (by decide), V1_x, show V2 m d (tb main_v3) = G (xIn m d) from Function.update_self _ _ _,
    StableHlo.held_congr (SparseCore.T d) (S := S7) (V := V2 m d) (V' := V1 m d) fun b hb =>
      Function.update_of_ne (fun e => absurd (e ▸ hb) (show tb main_v3 ∉ S7 by decide)) _ _]

theorem held_V1 (d : Dev nD) :
    (held (SparseCore.T d) S9 ((op2 (F := F)).result ((op1 (F := F)).result ((op0 (F := F)).result (V0 m d)))) : sProp 𝕄)
      = iprop((tcL d main_v2 ↦{fullShare} xIn m d) ∗ (tcL d main_v3 ↦{fullShare} oIn m d) ∗ held (SparseCore.T d) S7 (V1 m d)) := by
  show (held (SparseCore.T d) S9 (V1 m d) : sProp 𝕄) = _
  rw [held_S9, V1_x, V1_ne m d (b := main_v3) (by decide) (by decide) (by decide)]

theorem hop0 : (op0 (F := F)).bufs ⊆ S9 := show ({tb main_arg0, tb main_v0} : Finset (DevRef τ sig)) ⊆ S9 by decide
theorem hop1 : (op1 (F := F)).bufs ⊆ S9 := show ({tb main_v0, tb main_v1} : Finset (DevRef τ sig)) ⊆ S9 by decide
theorem hop2 : (op2 (F := F)).bufs ⊆ S9 := show ({tb main_v1, tb main_v2} : Finset (DevRef τ sig)) ⊆ S9 by decide
theorem hop4 : (op4 (F := F)).bufs ⊆ S9 := show ({tb main_v3, tb main_v4} : Finset (DevRef τ sig)) ⊆ S9 by decide
theorem hop5 : (op5 (F := F)).bufs ⊆ S9 := show ({tb main_v4, tb main_v5} : Finset (DevRef τ sig)) ⊆ S9 by decide
theorem hop6 : (op6 (F := F)).bufs ⊆ S9 := show ({tb main_v5, tb main_v6} : Finset (DevRef τ sig)) ⊆ S9 by decide

/-- @main on a device: three host operations, the call, three host operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hheld, Hts, -⟩, -⟩
  iapply (wp_hlo_within 𝒱 (SparseCore.T d) none Set.univ (op := op0) (S := S9) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S9) hop1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) hop2
    (V := (op1 (F := F)).result ((op0 (F := F)).result (V0 m d)))) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Hx, Ho, Hrest⟩
  iapply ((K (F := F)).wp_run (D (F := F)) 𝒱 (EH := EH) (P := P m) κ d 0) $$ [Hst Hx Ho Hb Hrest Hts]
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq m d)) $$ Hdn
  icases Hdn' with ⟨Hx, Ho⟩
  iapply (wp_hlo_within 𝒱 (SparseCore.T d) none Set.univ (op := op4) (S := S9) hop4 (V := V2 m d)) $$ [Hb Hx Ho Hrest]
  · isplitl [Hb]; · iexact Hb
    rw [held_V2]
    isplitl [Hx]; · iexact Hx
    isplitl [Ho]; · iexact Ho
    iexact Hrest
  iintro ⟨Hb, Hheld⟩
  rw [wp_ret]; imodintro
  iapply (wp_hlo_within 𝒱 (SparseCore.T d) none Set.univ (op := op5) (S := S9) hop5 (V := (op4 (F := F)).result (V2 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := S9) hop6
    (V := (op5 (F := F)).result ((op4 (F := F)).result (V2 m d)))) $$ [Hb Hheld]
  · isplitl [Hb]; · iexact Hb
    iexact Hheld
  iintro ⟨Hb, Hheld⟩
  rw [wp_ret]; imodintro; imodintro
  isplitl [Hst]; · iexact Hst
  isplitl [Hheld]
  · iapply (held_fin (F := F) m d); iexact Hheld
  isplitl [Hb] <;> iassumption

/-! ## The program's run -/

def fq (d : Dev nD) (s' : Phys nD τ sig (Elt F)) : Prop :=
  s'.mem.mem (tcL d main_arg0) = m (tcL d main_arg0) ∧ s'.mem.mem (tcL d main_arg1) = m (tcL d main_arg1)
    ∧ s'.mem.mem (tcL d main_v6) = unlaid (G (xIn m d))

theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := tcL d main_arg0) (I := Finset.univ) (q := fullShare)
    (f := m (tcL d main_arg0)))) $$ [HSI H0]
  · isplitl [HSI] <;> iassumption
  icases H with ⟨%h0, HSI, -⟩
  ihave H := (persistent_entails_right (SI_pointsTo_agree (st := s') (ℓ := tcL d main_arg1) (I := Finset.univ) (q := fullShare)
    (f := m (tcL d main_arg1)))) $$ [HSI H1]
  · isplitl [HSI] <;> iassumption
  icases H with ⟨%h1, HSI, -⟩
  ihave H := (SI_pointsTo_agree (st := s') (ℓ := tcL d main_v6) (I := Finset.univ) (q := fullShare) (f := unlaid (G (xIn m d)))) $$ [HSI H6]
  · isplitl [HSI] <;> iassumption
  icases H with %h6
  ipureintro
  exact ⟨funext fun j => h0 j (Finset.mem_univ j), funext fun j => h1 j (Finset.mem_univ j), funext fun j => h6 j (Finset.mem_univ j)⟩

/-- Every device's arguments as launched and its result the means laid out; the semaphores back at zero. -/
def QC : PUnit × MemSt nD τ sig (Elt F) → Prop := fun r =>
  (∀ c : Dev nD, r.2.mem (tcL c main_arg0) = m (tcL c main_arg0) ∧ r.2.mem (tcL c main_arg1) = m (tcL c main_arg1)
    ∧ r.2.mem (tcL c main_v6) = unlaid (G (xIn m c))) ∧ r.2.sem = fun _ => 0

/-- The program's run, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pool
-- ==== Proof.KernelValue.lean ====
/-
  The kernel's result at an element: the mean of the features of four consecutive fine pixels.
-/
module

public import proofs.«01_k».proof.Proof.Task
public import Idealize.ShloMosaic.Lib.Pipeline.Value

@[expose] public section

noncomputable section

namespace Cert.KernelIdeal.Pool

open Cert.KernelIdeal Cert.KernelIdeal.Gen
open Idealize.ShloMosaic Idealize.ShloMosaic.ValueIdx

variable {F : FTy → Type} [FloatOps F]

/-- The element of the features that the host's layout puts at `(b, t, n)`: pixel `n / 1024 * 128 + n % 128`, channel
    `8 * t + n / 128 % 8`. -/
theorem laid_apply (a : S4x786432x16.Idx → F .f32) (y : S4x2x6291456.Idx) (k : S4x786432x16.Idx)
    (h0 : (k 0).val = (y 0).val) (h1 : (k 1).val = (y 2).val / 1024 * 128 + (y 2).val % 128) (h2 : (k 2).val = 8 * (y 1).val + (y 2).val / 128 % 8) :
    laid a y = a k := by
  have y0 : (y 0).val < 4 := (y 0).isLt
  have y1 : (y 1).val < 2 := (y 1).isLt
  have y2 : (y 2).val < 6291456 := (y 2).isLt
  unfold laid
  refine (shapeCast_apply _ _ y (ix5 (y 0) (y 1) ⟨(y 2).val / 1024, by omega⟩ ⟨(y 2).val / 128 % 8, by omega⟩ ⟨(y 2).val % 128, by omega⟩) ?_).trans ?_
  · refine (Shape.rowMajor_val_five (d := ![4, 2, 6144, 8, 128]) _).trans ((Eq.trans ?_ (Shape.rowMajor_val_three (d := ![4, 2, 6291456]) _).symm))
    show ((((y 0).val * 2 + (y 1).val) * 6144 + (y 2).val / 1024) * 8 + (y 2).val / 128 % 8) * 128 + (y 2).val % 128 = ((y 0).val * 2 + (y 1).val) * 6291456 + (y 2).val
    omega
  refine (transpose_apply _ _ _ _ (ix5 (y 0) ⟨(y 2).val / 1024, by omega⟩ ⟨(y 2).val % 128, by omega⟩ (y 1) ⟨(y 2).val / 128 % 8, by omega⟩) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ _ _ k ?_
  refine (Shape.rowMajor_val_three (d := ![4, 786432, 16]) _).trans ((Eq.trans ?_ (Shape.rowMajor_val_five (d := ![4, 6144, 128, 2, 8]) _).symm))
  show ((k 0).val * 786432 + (k 1).val) * 16 + (k 2).val
    = ((((y 0).val * 6144 + (y 2).val / 1024) * 128 + (y 2).val % 128) * 2 + (y 1).val) * 8 + (y 2).val / 128 % 8
  omega

/-- The element of the kernel's output that the result holds at `j`. -/
theorem unlaid_apply (o : S4x2x1572864.Idx → F .f32) (j : S4x196608x16.Idx) (k : S4x2x1572864.Idx)
    (h0 : (k 0).val = (j 0).val) (h1 : (k 1).val = (j 2).val / 8)
    (h2 : (k 2).val = (j 1).val / 128 * 1024 + (j 2).val % 8 * 128 + (j 1).val % 128) :
    unlaid o j = o k := by
  have j0 : (j 0).val < 4 := (j 0).isLt
  have j1 : (j 1).val < 196608 := (j 1).isLt
  have j2 : (j 2).val < 16 := (j 2).isLt
  unfold unlaid
  refine (shapeCast_apply _ _ j (ix5 (j 0) ⟨(j 1).val / 128, by omega⟩ ⟨(j 1).val % 128, by omega⟩ ⟨(j 2).val / 8, by omega⟩ ⟨(j 2).val % 8, by omega⟩) ?_).trans ?_
  · refine (Shape.rowMajor_val_five (d := ![4, 1536, 128, 2, 8]) _).trans ((Eq.trans ?_ (Shape.rowMajor_val_three (d := ![4, 196608, 16]) _).symm))
    show ((((j 0).val * 1536 + (j 1).val / 128) * 128 + (j 1).val % 128) * 2 + (j 2).val / 8) * 8 + (j 2).val % 8 = ((j 0).val * 196608 + (j 1).val) * 16 + (j 2).val
    omega
  refine (transpose_apply _ _ _ _ (ix5 (j 0) ⟨(j 2).val / 8, by omega⟩ ⟨(j 1).val / 128, by omega⟩ ⟨(j 2).val % 8, by omega⟩ ⟨(j 1).val % 128, by omega⟩) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ _ _ k ?_
  refine (Shape.rowMajor_val_three (d := ![4, 2, 1572864]) _).trans ((Eq.trans ?_ (Shape.rowMajor_val_five (d := ![4, 2, 1536, 8, 128]) _).symm))
  show ((k 0).val * 2 + (k 1).val) * 1572864 + (k 2).val
    = ((((j 0).val * 2 + (j 2).val / 8) * 1536 + (j 1).val / 128) * 8 + (j 2).val % 8) * 128 + (j 1).val % 128
  omega

/-- Child `c` of coarse pixel `j 1`, at the batch and channel of `j`. -/
def child (j : S4x196608x16.Idx) (c : Fin 4) : S4x786432x16.Idx :=
  ix3 (j 0) ⟨4 * (j 1).val + c.val, by have h : (j 1).val < 196608 := (j 1).isLt; have := c.isLt; omega⟩ (j 2)

/-- What the laid-out features hold where the kernel reads child `c`. -/
theorem rd_child (a : S4x786432x16.Idx → F .f32) (j : S4x196608x16.Idx) (c : Fin 4) {k i n : Nat}
    (hk : k = (j 1).val / 128 * 1024 + (j 2).val % 8 * 128 + (j 1).val % 128) (hi : c.val = i)
    (hn : n = src k + i) :
    rd (laid a) (j 0).val ((j 2).val / 8) n = a (child j c) := by
  have j1 : (j 1).val < 196608 := (j 1).isLt
  have j2 : (j 2).val < 16 := (j 2).isLt
  have hc := c.isLt
  have e : n = (j 1).val / 32 * 1024 + (j 2).val % 8 * 128 + 4 * ((j 1).val % 32) + c.val := by
    rw [hn, hk, ← hi]; unfold src; omega
  have hlt : n < 6291456 := by omega
  rw [rd_eq (laid a) (ix3 (j 0) ⟨(j 2).val / 8, by omega⟩ ⟨n, hlt⟩) rfl rfl rfl]
  refine laid_apply a _ (child j c) rfl ?_ ?_
  · show 4 * (j 1).val + c.val = n / 1024 * 128 + n % 128
    omega
  · show (j 2).val = 8 * ((j 2).val / 8) + n / 128 % 8
    omega

/-- The result in the kernel's own layout, at an element whose coordinates are known. -/
theorem G_at (x : S4x2x6291456.Idx → F .f32) (k : S4x2x1572864.Idx) {b t n : Nat} (h0 : (k 0).val = b) (h1 : (k 1).val = t)
    (h2 : (k 2).val = n) :
    G x k = avg4 (rd x b t (src n)) (rd x b t (src n + 1)) (rd x b t (src n + 2)) (rd x b t (src n + 3)) := by
  subst h0 h1 h2
  rfl

/-- The result at an element: the mean of the four children's features. -/
theorem result_apply (a : S4x786432x16.Idx → F .f32) (j : S4x196608x16.Idx) :
    unlaid (G (laid a)) j = avg4 (a (child j 0)) (a (child j 1)) (a (child j 2)) (a (child j 3)) := by
  have j1 : (j 1).val < 196608 := (j 1).isLt
  have j2 : (j 2).val < 16 := (j 2).isLt
  obtain ⟨n, hn⟩ : ∃ n, n = (j 1).val / 128 * 1024 + (j 2).val % 8 * 128 + (j 1).val % 128 := ⟨_, rfl⟩
  have hlt : n < 1572864 := by omega
  rw [unlaid_apply (G (laid a)) j (ix3 (j 0) ⟨(j 2).val / 8, by omega⟩ ⟨n, hlt⟩) rfl rfl hn,
    G_at (laid a) _ (b := (j 0).val) (t := (j 2).val / 8) (n := n) rfl rfl rfl,
    rd_child a j 0 (i := 0) (n := src n) hn rfl (Nat.add_zero _).symm, rd_child a j 1 (i := 1) (n := src n + 1) hn rfl rfl,
    rd_child a j 2 (i := 2) (n := src n + 2) hn rfl rfl, rd_child a j 3 (i := 3) (n := src n + 3) hn rfl rfl]

end Cert.KernelIdeal.Pool
-- ==== Proof.ReferenceValue.lean ====
/-
  The reference read at an element. Where the grouping is the nested one, the index array names child `c` of coarse pixel
  `p` at position `4 p + c`, every index is in range, and the gather followed by the mean is the sum of the four children's
  features over four.
-/
module

public import proofs.«01_k».proof.Proof.Gen.ReferenceIdeal.Run
public import proofs.«01_k».proof.Proof.Gen.Pre_nested
public import Idealize.ShloMosaic.Lib.ReduceAll
public import Idealize.ShloMosaic.Lib.IdealHost
public import Idealize.ShloMosaic.Lib.Pointwise.Reduce
public import Idealize.ShloMosaic.Lib.Pipeline.Value

@[expose] public section

noncomputable section

namespace Cert.ReferenceIdeal.Pool

open Cert.ReferenceIdeal Cert.ReferenceIdeal.Gen Idealize.ShloMosaic Idealize.ShloMosaic.ValueIdx

variable {F : FTy → Type} [FloatOps F]

/-- The nested grouping: entry `(p, c)` is `4 p + c`. -/
def Nested (g : IVec S196608x4 32) : Prop := ∀ k, g k = BitVec.ofNat 32 (4 * (k 0).val + (k 1).val)

/-- The stated precondition is that the grouping is the nested one. -/
theorem nested_of_pre (a : FVec F Pre_nested.S4x786432x16 .f32) (g : IVec Pre_nested.S196608x4 32)
    (h : Pre_nested.fn a g = fun _ => 1#1) : Nested g := by
  intro k
  have hs : Subsingleton Pre_nested.S_.Idx := ⟨fun x y => funext fun i => i.elim0⟩
  have h1 := Host.reduce_andi_all _ _ _ _ _ (congrFun h (fun i => i.elim0)) k
  have k0 : (k 0).val < 196608 := (k 0).isLt
  have k1 : (k 1).val < 4 := (k 1).isLt
  have e : g k = shapeCast Pre_nested.S196608x4 (iotaInDim Pre_nested.S786432 32 0) Pre_nested.Facts.shapeCasts_S786432_S196608x4 k := by
    by_contra hne
    have : IntOp.cmpi .eq (g k) (shapeCast Pre_nested.S196608x4 (iotaInDim Pre_nested.S786432 32 0) Pre_nested.Facts.shapeCasts_S786432_S196608x4 k) = 1#1 := h1
    rw [show IntOp.cmpi .eq (g k) (shapeCast Pre_nested.S196608x4 (iotaInDim Pre_nested.S786432 32 0) Pre_nested.Facts.shapeCasts_S786432_S196608x4 k) = 0#1 from by
      unfold IntOp.cmpi; simp only [beq_eq_false_iff_ne.mpr hne]; rfl] at this
    exact absurd this (by decide)
  refine e.trans ((shapeCast_apply _ _ k (ValueIdx.ix1 ⟨4 * (k 0).val + (k 1).val, by omega⟩) ?_).trans rfl)
  refine (Shape.rowMajor_val_one (d := ![786432]) _).trans ((Eq.trans ?_ (Shape.rowMajor_val_two (d := ![196608, 4]) _).symm))
  show 4 * (k 0).val + (k 1).val = (k 0).val * 4 + (k 1).val
  omega

/-- The index array the gather reads. -/
abbrev at5 (g : IVec S196608x4 32) : IVec S196608x4x1 32 :=
  broadcastInDim S196608x4x1 ![0, 1] bcast_S196608x4_S196608x4x1_0_1
    (select (cmpi .slt g (broadcastInDim S196608x4 ![] bcast_S_S196608x4 (constantI S_ 32 0#32)))
      (addi g (broadcastInDim S196608x4 ![] bcast_S_S196608x4 (constantI S_ 32 786432#32))) g)

/-- Which of its entries are in range. -/
abbrev inRange (g : IVec S196608x4 32) : IVec S196608x4 1 :=
  Host.reduce IntOp.andi
    (andi (cmpi .sge (at5 g) (broadcastInDim S196608x4x1 ![] bcast_S_S196608x4x1 (constantI S_ 32 0#32)))
      (cmpi .sle (at5 g) (broadcastInDim S196608x4x1 ![0, 1, 2] bcast_S1x1x1_S196608x4x1_0_1_2
        (broadcastInDim S1x1x1 ![2] bcast_S1_S1x1x1_2 (constantI S1 32 786431#32)))))
    (constantI S_ 1 1#1) reducesTo_S196608x4x1_S196608x4_d2 h_S_

/-- What is gathered: the features named by the grouping, or not-a-number out of range. -/
abbrev taken (x : FVec F S4x786432x16 .f32) (g : IVec S196608x4 32) : FVec F S4x196608x4x16 .f32 :=
  select (broadcastInDim S4x196608x4x16 ![1, 2] bcast_S196608x4_S4x196608x4x16_1_2 (inRange g))
    (Host.gather gather_S4x786432x16_S196608x4x1_S4x196608x4x16_03_1_n_n_1_2_4116 x (at5 g))
    (broadcastInDim S4x196608x4x16 ![] bcast_S_S4x196608x4x16 (constant S_ .f32 0x7FC00000#32))

/-- The reference's result as one term. -/
abbrev pooled (x : FVec F S4x786432x16 .f32) (g : IVec S196608x4 32) : FVec F S4x196608x16 .f32 :=
  Host.divf (Host.reduceAdd (taken x g) (constant S_ .f32 0x00000000#32) reducesTo_S4x196608x4x16_S4x196608x16_d2 h_S_)
    (broadcastInDim S4x196608x16 ![] bcast_S_S4x196608x16 (constant S_ .f32 0x40800000#32))

/-- An entry of the nested grouping, as a number. -/
theorem entry_toInt {n : Nat} (h : n < 786432) : (BitVec.ofNat 32 n).toInt = (n : Int) := by
  rw [BitVec.toInt_eq_toNat_of_lt (by rw [BitVec.toNat_ofNat]; omega), BitVec.toNat_ofNat, Nat.mod_eq_of_lt (by omega)]

/-- Under the nested grouping the wrapped index is the entry itself. -/
theorem at5_apply {g : IVec S196608x4 32} (hg : Nested g) (k : S196608x4x1.Idx) :
    at5 g k = BitVec.ofNat 32 (4 * (k 0).val + (k 1).val) := by
  have k0 : (k 0).val < 196608 := (k 0).isLt
  have k1 : (k 1).val < 4 := (k 1).isLt
  have e : at5 g k = Scalar.select (IntOp.cmpi .slt (g (ValueIdx.ix2 (k 0) (k 1))) 0#32) (IntOp.addi (g (ValueIdx.ix2 (k 0) (k 1))) 786432#32) (g (ValueIdx.ix2 (k 0) (k 1))) := by
    have ek : (fun a : Fin 2 => if h1 : S196608x4.size a = 1 then (⟨0, by omega⟩ : Fin (S196608x4.size a)) else ⟨(k (![0, 1] a)).val, by
        rcases (bcast_S196608x4_S196608x4x1_0_1).2 a with h2 | h2
        · exact absurd h2 h1
        · rw [h2]; exact (k (![0, 1] a)).isLt⟩) = ValueIdx.ix2 (k 0) (k 1) := by
      funext a
      match a with
      | ⟨0, _⟩ => rfl
      | ⟨1, _⟩ => rfl
    exact congrArg (fun i => Scalar.select (IntOp.cmpi .slt (g i) 0#32) (IntOp.addi (g i) 786432#32) (g i)) ek
  have hk : g (ValueIdx.ix2 (k 0) (k 1)) = BitVec.ofNat 32 (4 * (k 0).val + (k 1).val) := hg _
  rw [e, hk]
  have hlt : IntOp.cmpi .slt (BitVec.ofNat 32 (4 * (k 0).val + (k 1).val)) 0#32 = 0#1 := by
    have : (BitVec.ofNat 32 (4 * (k 0).val + (k 1).val)).slt 0#32 = false := by
      rw [BitVec.slt_eq_decide, entry_toInt (by omega)]
      exact decide_eq_false (not_lt.mpr (Int.natCast_nonneg _))
    unfold IntOp.cmpi
    simp only [this]
    rfl
  rw [hlt]
  rfl

/-- Under the nested grouping every index is in range. -/
theorem inRange_apply {g : IVec S196608x4 32} (hg : Nested g) (k : S196608x4.Idx) : inRange g k = 1#1 := by
  refine Host.reduce_andi_one _ _ _ _ _ rfl fun i => ?_
  have i0 : (i 0).val < 196608 := (i 0).isLt
  have i1 : (i 1).val < 4 := (i 1).isLt
  have h0 : (0#32).sle (at5 g i) = true := by
    rw [at5_apply hg, BitVec.sle_eq_decide]
    refine decide_eq_true ?_
    rw [entry_toInt (n := 4 * (i 0).val + (i 1).val) (by omega)]
    exact Int.natCast_nonneg _
  have h1 : (at5 g i).sle 786431#32 = true := by
    rw [at5_apply hg, BitVec.sle_eq_decide, entry_toInt (by omega), show (786431#32 : BitVec 32).toInt = 786431 from rfl]
    exact decide_eq_true (by omega)
  show IntOp.andi (IntOp.cmpi .sge (at5 g i) 0#32) (IntOp.cmpi .sle (at5 g i) 786431#32) = 1#1
  unfold IntOp.cmpi
  simp only [h0, h1]
  rfl

/-- The place of child `c` of coarse pixel `p`, at a batch and a channel. -/
def place (b : Fin 4) (p : Fin 196608) (c : Fin 4) (e : Fin 16) : S4x786432x16.Idx :=
  ValueIdx.ix3 b ⟨4 * p.val + c.val, by have := p.isLt; have := c.isLt; omega⟩ e

/-- Under the nested grouping the gather reads that place. -/
theorem gather_apply (x : FVec F S4x786432x16 .f32) {g : IVec S196608x4 32} (hg : Nested g) (b : Fin 4) (p : Fin 196608) (c : Fin 4)
    (e : Fin 16) :
    Host.gather gather_S4x786432x16_S196608x4x1_S4x196608x4x16_03_1_n_n_1_2_4116 x (at5 g) (ValueIdx.ix4 b p c e) = x (place b p c e) := by
  have hp := p.isLt
  have hc := c.isLt
  unfold Host.gather
  congr 1
  funext a
  refine Fin.ext ?_
  show GatherDims.start _ (ValueIdx.ix4 b p c e) (at5 g) a + GatherDims.batchCoord _ (ValueIdx.ix4 b p c e) a + GatherDims.offCoord _ (ValueIdx.ix4 b p c e) a = _
  rw [GatherDims.batchCoord_eq_zero _ _ _ List.not_mem_nil, Nat.add_zero]
  match a with
  | ⟨0, _⟩ => exact Nat.zero_add _
  | ⟨1, _⟩ =>
    rw [GatherDims.offCoord_eq_zero _ _ _ (fun h => ((GatherDims.mem_sKept _ _).mp h).1 (List.mem_singleton.mpr rfl)), Nat.add_zero]
    unfold GatherDims.start
    have hm : (⟨1, by decide⟩ : Fin S4x786432x16.rank) ∈ gather_S4x786432x16_S196608x4x1_S4x196608x4x16_03_1_n_n_1_2_4116.startIndexMap :=
      List.mem_singleton.mpr rfl
    rw [dif_pos hm]
    have hsi : GatherDims.siIdx gather_S4x786432x16_S196608x4x1_S4x196608x4x16_03_1_n_n_1_2_4116 (ValueIdx.ix4 b p c e)
        ⟨List.idxOf _ _, List.idxOf_lt_length_iff.2 hm⟩ = ValueIdx.ix3 p c 0 := by
      funext k
      refine Fin.ext ?_
      match k with
      | ⟨0, _⟩ => rfl
      | ⟨1, _⟩ => rfl
      | ⟨2, _⟩ => rfl
    refine (congrArg (fun i => min (at5 g i).toInt.toNat (786432 - 1)) hsi).trans ?_
    rw [at5_apply hg]
    have hn : (BitVec.ofNat 32 (4 * p.val + c.val)).toInt.toNat = 4 * p.val + c.val := by
      rw [entry_toInt (by omega)]; exact Int.toNat_natCast _
    exact (congrArg (fun n => min n (786432 - 1)) hn).trans (Nat.min_eq_left (by omega))
  | ⟨2, _⟩ => exact Nat.zero_add _

/-- Where the condition is true a selection is its first array. -/
theorem select_one {s : Shape} {α : Type} {m : IVec s 1} {u v : s.Idx → α} {i : s.Idx} (h : m i = 1#1) : select m u v i = u i := by
  unfold select
  rw [h]
  rfl

/-- Under the nested grouping what is taken is the children's features. -/
theorem taken_apply (x : FVec F S4x786432x16 .f32) {g : IVec S196608x4 32} (hg : Nested g) (b : Fin 4) (p : Fin 196608) (c : Fin 4)
    (e : Fin 16) : taken x g (ValueIdx.ix4 b p c e) = x (place b p c e) := by
  rw [← gather_apply x hg b p c e]
  exact select_one (inRange_apply hg _)

/-- The reference at an element, at the ideal values: the sum of the four children over four. -/
theorem pooled_apply (x : FVec Ideal S4x786432x16 .f32) {g : IVec S196608x4 32} (hg : Nested g) (j : S4x196608x16.Idx) :
    pooled x g j = Ideal.div (x (place (j 0) (j 1) 0 (j 2)) + x (place (j 0) (j 1) 1 (j 2)) + x (place (j 0) (j 1) 2 (j 2))
      + x (place (j 0) (j 1) 3 (j 2))) (Ideal.ofBits .f32 0x40800000#32) := by
  refine (hostDivf_apply _ _ j).trans (congrArg₂ Ideal.div ?_ rfl)
  rw [hostReduceAdd_apply, Ideal.hostReduceAdd_r4_a2, Fin.sum_univ_four]
  have h0 : (constant (F := Ideal) S_ .f32 0x00000000#32) (Shape.Idx.first h_S_) = (0 : EReal) := Ideal.ofBits_zero_f32
  rw [h0, zero_add]
  exact congrArg₂ (· + ·) (congrArg₂ (· + ·) (congrArg₂ (· + ·) (taken_apply x hg (j 0) (j 1) 0 (j 2)) (taken_apply x hg (j 0) (j 1) 1 (j 2)))
    (taken_apply x hg (j 0) (j 1) 2 (j 2))) (taken_apply x hg (j 0) (j 1) 3 (j 2))

end Cert.ReferenceIdeal.Pool
-- ==== Proof.Mean.lean ====
/-
  The kernel's mean of four and the reference's sum over four are one extended real: a quarter of the sum of the four children.
-/
module

public import proofs.«01_k».proof.Proof.KernelValue
public import proofs.«01_k».proof.Proof.ReferenceValue

@[expose] public section

noncomputable section

namespace Cert.Proof

open Idealize.ShloMosaic

/-- The word of the kernel's factor is a quarter. -/
theorem word_quarter : Ideal.ofBits .f32 0x3E800000#32 = (((1 : ℝ) / 4 : ℝ) : EReal) := by
  simp [Ideal.ofBits, Ideal.ieee, -EReal.coe_mul]; norm_num

/-- The word of the reference's divisor is four. -/
theorem word_four : Ideal.ofBits .f32 0x40800000#32 = ((4 : ℝ) : EReal) := by
  simp [Ideal.ofBits, Ideal.ieee, -EReal.coe_mul]; norm_num

/-- The kernel's mean of four extended reals is their sum over four. -/
theorem mean_eq (a b c d : EReal) :
    KernelIdeal.Pool.avg4 (F := Ideal) a b c d = Ideal.div (a + b + c + d) (Ideal.ofBits .f32 0x40800000#32) := by
  rw [word_four, Ideal.div_coe (by norm_num)]
  show (a + b + (c + d)) * Ideal.ofBits .f32 0x3E800000#32 = _
  rw [word_quarter, add_assoc (a + b) c d]

/-- Under the nested grouping the kernel's result is the reference's. -/
theorem value_eq (x : FVec Ideal ReferenceIdeal.S4x786432x16 .f32) {g : IVec ReferenceIdeal.S196608x4 32} (hg : ReferenceIdeal.Pool.Nested g) :
    ReferenceIdeal.Pool.pooled x g = KernelIdeal.Pool.unlaid (KernelIdeal.Pool.G (KernelIdeal.Pool.laid x)) := by
  funext j
  refine (ReferenceIdeal.Pool.pooled_apply x hg j).trans ?_
  refine (mean_eq _ _ _ _).symm.trans ?_
  exact (KernelIdeal.Pool.result_apply x j).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nested
public import proofs.«01_k».proof.Proof.Main
public import proofs.«01_k».proof.Proof.Mean
public import Idealize.ShloMosaic.Adequacy
public import Idealize.ShloMosaic.Init

@[expose] public section

noncomputable section

namespace Cert.Proof

open Idealize.ShloMosaic Idealize.SL.Sem

/-- The kernel's frame at the bit-exact values: its run, which is stated over any float values. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.Pool.run_main (F := Bits) m ρ)

/-- The kernel's frame at the ideal values. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Pool.run_main (F := Ideal) m ρ)

/-- The reference's frame: its run read at the arguments; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result, from a nested grouping. -/
theorem algebraic : Cert.algebraic_KernelIdeal_ReferenceIdeal_pre_nested := by
  intro m ρ m' ρ' hpre hagree
  refine ⟨fun c => Cert.KernelIdeal.Pool.unlaid (Cert.KernelIdeal.Pool.G (Cert.KernelIdeal.Pool.xIn m c)), ?_, ?_⟩
  · exact (θ_run Cert.KernelIdeal.defs _ _).mono (fun _ h c => ⟨(h.1 c).2.2, (h.1 c).1, (h.1 c).2.1⟩)
      (Cert.KernelIdeal.Pool.run_main (F := Ideal) m ρ)
  · refine (θ_run Cert.ReferenceIdeal.defs _ _).mono (fun r h c => ⟨(h c).1.trans ?_, (h c).2⟩)
      (Cert.ReferenceIdeal.Value.run (F := Ideal) m' ρ')
    have hg := Cert.ReferenceIdeal.Pool.nested_of_pre _ _ (hpre c)
    rw [(hagree c).1, (hagree c).2]
    exact value_eq _ hg

theorem claim : Cert.Claim := ⟨Cert.Kernel.Gen.facts, Cert.KernelIdeal.Gen.facts, Cert.ReferenceIdeal.Gen.facts, Cert.Pre_nested.Gen.facts,
  frame_kernel, frame_kernelIdeal, fun m ρ _ => frame_kernelIdeal m ρ trivial, frame_referenceIdeal,
  fun m ρ _ => frame_referenceIdeal m ρ trivial, trivial, algebraic⟩

end Cert.Proof

end
